-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x96x32x32 : Shape := ⟨4, ![8, 96, 32, 32]⟩
abbrev S96x96 : Shape := ⟨2, ![96, 96]⟩
abbrev S96 : Shape := ⟨1, ![96]⟩
abbrev S192x192 : Shape := ⟨2, ![192, 192]⟩
abbrev S192 : Shape := ⟨1, ![192]⟩
abbrev S96x192 : Shape := ⟨2, ![96, 192]⟩
abbrev S_ : Shape := ⟨0, ![]⟩

class Facts : Prop where
  bcast_S_S8x96x32x32 : S_.BroadcastsInDim S8x96x32x32 (![] : Fin 0 → Fin S8x96x32x32.rank)
  reducesTo_S8x96x32x32_S_d0_1_2_3 : S8x96x32x32.ReducesTo [0, 1, 2, 3] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S96x192 : S_.BroadcastsInDim S96x192 (![] : Fin 0 → Fin S96x192.rank)
  reducesTo_S96x192_S_d0_1 : S96x192.ReducesTo [0, 1] S_

variable [Facts]

def fn_part3 {F : FTy → Type} [FloatOps F] (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  main_v53

def fn_part2 {F : FTy → Type} [FloatOps F] (main_arg7 : FVec F S192 .f32) (main_arg8 : FVec F S192 .f32) (main_arg9 : FVec F S96x192 .f32) (main_arg11 : FVec F S96 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S96x192 .f32 := Host.absf main_arg9
  let main_cst_16 : FVec F S_ .f32 := constant S_ .f32 0x7F800000#32
  let main_v45 : FVec F S96x192 .f32 := broadcastInDim S96x192 ![] bcast_S_S96x192 main_cst_16
  let main_v46 : IVec S96x192 1 := cmpf .olt main_v44 main_v45
  let main_c_17 : IVec S_ 1 := constantI S_ 1 1#1
  let main_v47 : IVec S_ 1 := (fun x v => Host.reduce IntOp.andi x v reducesTo_S96x192_S_d0_1 h_S_) main_v46 main_c_17
  let main_v48 : IVec S_ 1 := andi main_v43 main_v47
  let main_v49 : FVec F S96 .f32 := Host.absf main_arg11
  let main_cst_18 : FVec F S_ .f32 := constant S_ .f32 0x7F800000#32
  let main_v50 : FVec F S96 .f32 := broadcastInDim S96 ![] bcast_S_S96 main_cst_18
  fn_part3 (F := F) main_v48 main_v49 main_v50

def fn_part1 {F : FTy → Type} [FloatOps F] (main_arg4 : FVec F S96 .f32) (main_arg5 : FVec F S192x192 .f32) (main_arg6 : FVec F S192 .f32) (main_arg7 : FVec F S192 .f32) (main_arg8 : FVec F S192 .f32) (main_arg9 : FVec F S96x192 .f32) (main_arg11 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S192x192 .f32 := Host.absf main_arg5
  let main_cst_8 : FVec F S_ .f32 := constant S_ .f32 0x7F800000#32
  let main_v25 : FVec F S192x192 .f32 := broadcastInDim S192x192 ![] bcast_S_S192x192 main_cst_8
  let main_v26 : IVec S192x192 1 := cmpf .olt main_v24 main_v25
  let main_c_9 : IVec S_ 1 := constantI S_ 1 1#1
  let main_v27 : IVec S_ 1 := (fun x v => Host.reduce IntOp.andi x v reducesTo_S192x192_S_d0_1 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_arg9 main_arg11 main_v33

def fn {F : FTy → Type} [FloatOps F] (main_arg0 : FVec F S8x96x32x32 .f32) (main_arg1 : FVec F S96x96 .f32) (main_arg2 : FVec F S96 .f32) (main_arg3 : FVec F S96 .f32) (main_arg4 : FVec F S96 .f32) (main_arg5 : FVec F S192x192 .f32) (main_arg6 : FVec F S192 .f32) (main_arg7 : FVec F S192 .f32) (main_arg8 : FVec F S192 .f32) (main_arg9 : FVec F S96x192 .f32) (main_arg10 : FVec F S96 .f32) (main_arg11 : FVec F S96 .f32) (main_arg12 : FVec F S96 .f32) : IVec S_ 1 :=
  let main_v0 : FVec F S8x96x32x32 .f32 := Host.absf main_arg0
  let main_cst : FVec F S_ .f32 := constant S_ .f32 0x7F800000#32
  let main_v1 : FVec F S8x96x32x32 .f32 := broadcastInDim S8x96x32x32 ![] bcast_S_S8x96x32x32 main_cst
  let main_v2 : IVec S8x96x32x32 1 := cmpf .olt main_v0 main_v1
  let main_c : IVec S_ 1 := constantI S_ 1 1#1
  let main_v3 : IVec S_ 1 := (fun x v => Host.reduce IntOp.andi x v reducesTo_S8x96x32x32_S_d0_1_2_3 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_arg8 main_arg9 main_arg11 main_v13 main_v16
-- ==== Kernel.lean ====
abbrev S8x96x32x32 : Shape := ⟨4, ![8, 96, 32, 32]⟩
abbrev S96x96 : Shape := ⟨2, ![96, 96]⟩
abbrev S96 : Shape := ⟨1, ![96]⟩
abbrev S192x192 : Shape := ⟨2, ![192, 192]⟩
abbrev S192 : Shape := ⟨1, ![192]⟩
abbrev S96x192 : Shape := ⟨2, ![96, 192]⟩
abbrev S_ : Shape := ⟨0, ![]⟩
abbrev S96x1 : Shape := ⟨2, ![96, 1]⟩
abbrev S192x1 : Shape := ⟨2, ![192, 1]⟩
abbrev S192x96 : Shape := ⟨2, ![192, 96]⟩
abbrev S8x96x4x8x4x8 : Shape := ⟨6, ![8, 96, 4, 8, 4, 8]⟩
abbrev S96x8x4x4x8x8 : Shape := ⟨6, ![96, 8, 4, 4, 8, 8]⟩
abbrev S96x8192 : Shape := ⟨2, ![96, 8192]⟩
abbrev S96x512 : Shape := ⟨2, ![96, 512]⟩
abbrev S512 : Shape := ⟨1, ![512]⟩
abbrev S1x512 : Shape := ⟨2, ![1, 512]⟩
abbrev S192x512 : Shape := ⟨2, ![192, 512]⟩
abbrev S64x64 : Shape := ⟨2, ![64, 64]⟩
abbrev S96x64 : Shape := ⟨2, ![96, 64]⟩
abbrev S1x64 : Shape := ⟨2, ![1, 64]⟩
abbrev S64x1 : Shape := ⟨2, ![64, 1]⟩
abbrev S192x64 : Shape := ⟨2, ![192, 64]⟩
abbrev S64 : Shape := ⟨1, ![64]⟩

abbrev nBuf : Space → Nat
  | .hbm => 52
  | .vmem => 11
  | .smem => 0
  | _ => 0

abbrev bufTy : (tb : Table) → Fin (tcTables nBuf tb) → BufTy
  | .hbm, ⟨0, _⟩ => ⟨S8x96x32x32, .f32⟩
  | .hbm, ⟨1, _⟩ => ⟨S96x96, .f32⟩
  | .hbm, ⟨2, _⟩ => ⟨S96, .f32⟩
  | .hbm, ⟨3, _⟩ => ⟨S96, .f32⟩
  | .hbm, ⟨4, _⟩ => ⟨S96, .f32⟩
  | .hbm, ⟨5, _⟩ => ⟨S192x192, .f32⟩
  | .hbm, ⟨6, _⟩ => ⟨S192, .f32⟩
  | .hbm, ⟨7, _⟩ => ⟨S192, .f32⟩
  | .hbm, ⟨8, _⟩ => ⟨S192, .f32⟩
  | .hbm, ⟨9, _⟩ => ⟨S96x192, .f32⟩
  | .hbm, ⟨10, _⟩ => ⟨S96, .f32⟩
  | .hbm, ⟨11, _⟩ => ⟨S96, .f32⟩
  | .hbm, ⟨12, _⟩ => ⟨S96, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S96, .f32⟩
  | .hbm, ⟨18, _⟩ => ⟨S96, .f32⟩
  | .hbm, ⟨19, _⟩ => ⟨S96x1, .f32⟩
  | .hbm, ⟨20, _⟩ => ⟨S96x96, .f32⟩
  | .hbm, ⟨21, _⟩ => ⟨S96x96, .f32⟩
  | .hbm, ⟨22, _⟩ => ⟨S96, .f32⟩
  | .hbm, ⟨23, _⟩ => ⟨S96, .f32⟩
  | .hbm, ⟨24, _⟩ => ⟨S192, .f32⟩
  | .hbm, ⟨25, _⟩ => ⟨S192, .f32⟩
  | .hbm, ⟨26, _⟩ => ⟨S192x1, .f32⟩
  | .hbm, ⟨27, _⟩ => ⟨S192x192, .f32⟩
  | .hbm, ⟨28, _⟩ => ⟨S192x192, .f32⟩
  | .hbm, ⟨29, _⟩ => ⟨S192, .f32⟩
  | .hbm, ⟨30, _⟩ => ⟨S192, .f32⟩
  | .hbm, ⟨31, _⟩ => ⟨S192x96, .f32⟩
  | .hbm, ⟨32, _⟩ => ⟨S192x96, .f32⟩
  | .hbm, ⟨33, _⟩ => ⟨S192x96, .f32⟩
  | .hbm, ⟨34, _⟩ => ⟨S192x96, .f32⟩
  | .hbm, ⟨35, _⟩ => ⟨S96, .f32⟩
  | .hbm, ⟨36, _⟩ => ⟨S96, .f32⟩
  | .hbm, ⟨37, _⟩ => ⟨S96x1, .f32⟩
  | .hbm, ⟨38, _⟩ => ⟨S96x192, .f32⟩
  | .hbm, ⟨39, _⟩ => ⟨S96x192, .f32⟩
  | .hbm, ⟨40, _⟩ => ⟨S96, .f32⟩
  | .hbm, ⟨41, _⟩ => ⟨S96, .f32⟩
  | .hbm, ⟨42, _⟩ => ⟨S8x96x4x8x4x8, .f32⟩
  | .hbm, ⟨43, _⟩ => ⟨S96x8x4x4x8x8, .f32⟩
  | .hbm, ⟨44, _⟩ => ⟨S96x8192, .f32⟩
  | .hbm, ⟨45, _⟩ => ⟨S96x1, .f32⟩
  | .hbm, ⟨46, _⟩ => ⟨S192x1, .f32⟩
  | .hbm, ⟨47, _⟩ => ⟨S96x1, .f32⟩
  | .hbm, ⟨48, _⟩ => ⟨S96x8192, .f32⟩
  | .hbm, ⟨49, _⟩ => ⟨S96x8x4x4x8x8, .f32⟩
  | .hbm, ⟨50, _⟩ => ⟨S8x96x4x8x4x8, .f32⟩
  | .hbm, ⟨51, _⟩ => ⟨S8x96x32x32, .f32⟩
  | .local _ .vmem, ⟨0, _⟩ => ⟨S96x512, .f32⟩
  | .local _ .vmem, ⟨1, _⟩ => ⟨S96x512, .f32⟩
  | .local _ .vmem, ⟨2, _⟩ => ⟨S96x96, .f32⟩
  | .local _ .vmem, ⟨3, _⟩ => ⟨S96x1, .f32⟩
  | .local _ .vmem, ⟨4, _⟩ => ⟨S192x96, .f32⟩
  | .local _ .vmem, ⟨5, _⟩ => ⟨S192x96, .f32⟩
  | .local _ .vmem, ⟨6, _⟩ => ⟨S192x1, .f32⟩
  | .local _ .vmem, ⟨7, _⟩ => ⟨S96x192, .f32⟩
  | .local _ .vmem, ⟨8, _⟩ => ⟨S96x1, .f32⟩
  | .local _ .vmem, ⟨9, _⟩ => ⟨S96x512, .f32⟩
  | .local _ .vmem, ⟨10, _⟩ => ⟨S96x512, .f32⟩
  | _, _ => ⟨S8x96x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S96x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S96x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x96x32x32 : Shape := ⟨4, ![8, 96, 32, 32]⟩
abbrev S96x96 : Shape := ⟨2, ![96, 96]⟩
abbrev S96 : Shape := ⟨1, ![96]⟩
abbrev S192x192 : Shape := ⟨2, ![192, 192]⟩
abbrev S192 : Shape := ⟨1, ![192]⟩
abbrev S96x192 : Shape := ⟨2, ![96, 192]⟩
abbrev S96x8x32x32 : Shape := ⟨4, ![96, 8, 32, 32]⟩
abbrev S1x96x1x1 : Shape := ⟨4, ![1, 96, 1, 1]⟩
abbrev S_ : Shape := ⟨0, ![]⟩
abbrev S8x32x32x96 : Shape := ⟨4, ![8, 32, 32, 96]⟩
abbrev S8x4x8x4x8x96 : Shape := ⟨6, ![8, 4, 8, 4, 8, 96]⟩
abbrev S8x4x4x8x8x96 : Shape := ⟨6, ![8, 4, 4, 8, 8, 96]⟩
abbrev S128x8x8x96 : Shape := ⟨4, ![128, 8, 8, 96]⟩
abbrev S128x96x8x8 : Shape := ⟨4, ![128, 96, 8, 8]⟩
abbrev S128x96x64 : Shape := ⟨3, ![128, 96, 64]⟩
abbrev S128x64 : Shape := ⟨2, ![128, 64]⟩
abbrev S128x1x64 : Shape := ⟨3, ![128, 1, 64]⟩
abbrev S128x64x96 : Shape := ⟨3, ![128, 64, 96]⟩
abbrev S128x64x64 : Shape := ⟨3, ![128, 64, 64]⟩
abbrev S128x64x1 : Shape := ⟨3, ![128, 64, 1]⟩
abbrev S128x64x9 : Shape := ⟨3, ![128, 64, 9]⟩
abbrev S128x64x9x1 : Shape := ⟨4, ![128, 64, 9, 1]⟩
abbrev S128x96x64x9 : Shape := ⟨4, ![128, 96, 64, 9]⟩
abbrev S128x96x64x1 : Shape := ⟨4, ![128, 96, 64, 1]⟩
abbrev S128x192x64x9 : Shape := ⟨4, ![128, 192, 64, 9]⟩
abbrev S192x128x64x9 : Shape := ⟨4, ![192, 128, 64, 9]⟩
abbrev S1x192x1x1 : Shape := ⟨4, ![1, 192, 1, 1]⟩
abbrev S128x192x64 : Shape := ⟨3, ![128, 192, 64]⟩
abbrev S128x192x8x8 : Shape := ⟨4, ![128, 192, 8, 8]⟩
abbrev S128x8x8x192 : Shape := ⟨4, ![128, 8, 8, 192]⟩
abbrev S8x4x4x8x8x192 : Shape := ⟨6, ![8, 4, 4, 8, 8, 192]⟩
abbrev S8x4x8x4x8x192 : Shape := ⟨6, ![8, 4, 8, 4, 8, 192]⟩
abbrev S8x32x32x192 : Shape := ⟨4, ![8, 32, 32, 192]⟩
abbrev S8x192x32x32 : Shape := ⟨4, ![8, 192, 32, 32]⟩

abbrev nBuf : Space → Nat
  | .hbm => 120
  | .vmem => 0
  | .smem => 0
  | _ => 0

abbrev bufTy : (tb : Table) → Fin (tcTables nBuf tb) → BufTy
  | .hbm, ⟨0, _⟩ => ⟨S8x96x32x32, .f32⟩
  | .hbm, ⟨1, _⟩ => ⟨S96x96, .f32⟩
  | .hbm, ⟨2, _⟩ => ⟨S96, .f32⟩
  | .hbm, ⟨3, _⟩ => ⟨S96, .f32⟩
  | .hbm, ⟨4, _⟩ => ⟨S96, .f32⟩
  | .hbm, ⟨5, _⟩ => ⟨S192x192, .f32⟩
  | .hbm, ⟨6, _⟩ => ⟨S192, .f32⟩
  | .hbm, ⟨7, _⟩ => ⟨S192, .f32⟩
  | .hbm, ⟨8, _⟩ => ⟨S192, .f32⟩
  | .hbm, ⟨9, _⟩ => ⟨S96x192, .f32⟩
  | .hbm, ⟨10, _⟩ => ⟨S96, .f32⟩
  | .hbm, ⟨11, _⟩ => ⟨S96, .f32⟩
  | .hbm, ⟨12, _⟩ => ⟨S96, .f32⟩
  | .hbm, ⟨13, _⟩ => ⟨S96x8x32x32, .f32⟩
  | .hbm, ⟨14, _⟩ => ⟨S8x96x32x32, .f32⟩
  | .hbm, ⟨15, _⟩ => ⟨S1x96x1x1, .f32⟩
  | .hbm, ⟨16, _⟩ => ⟨S8x96x32x32, .f32⟩
  | .hbm, ⟨17, _⟩ => ⟨S8x96x32x32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x96x32x32, .f32⟩
  | .hbm, ⟨22, _⟩ => ⟨S8x96x32x32, .f32⟩
  | .hbm, ⟨23, _⟩ => ⟨S1x96x1x1, .f32⟩
  | .hbm, ⟨24, _⟩ => ⟨S8x96x32x32, .f32⟩
  | .hbm, ⟨25, _⟩ => ⟨S8x96x32x32, .f32⟩
  | .hbm, ⟨26, _⟩ => ⟨S1x96x1x1, .f32⟩
  | .hbm, ⟨27, _⟩ => ⟨S8x96x32x32, .f32⟩
  | .hbm, ⟨28, _⟩ => ⟨S8x96x32x32, .f32⟩
  | .hbm, ⟨29, _⟩ => ⟨S8x32x32x96, .f32⟩
  | .hbm, ⟨30, _⟩ => ⟨S8x4x8x4x8x96, .f32⟩
  | .hbm, ⟨31, _⟩ => ⟨S8x4x4x8x8x96, .f32⟩
  | .hbm, ⟨32, _⟩ => ⟨S128x8x8x96, .f32⟩
  | .hbm, ⟨33, _⟩ => ⟨S128x96x8x8, .f32⟩
  | .hbm, ⟨34, _⟩ => ⟨S128x96x64, .f32⟩
  | .hbm, ⟨35, _⟩ => ⟨S128x96x64, .f32⟩
  | .hbm, ⟨36, _⟩ => ⟨S_, .f32⟩
  | .hbm, ⟨37, _⟩ => ⟨S128x64, .f32⟩
  | .hbm, ⟨38, _⟩ => ⟨S128x1x64, .f32⟩
  | .hbm, ⟨39, _⟩ => ⟨S128x1x64, .f32⟩
  | .hbm, ⟨40, _⟩ => ⟨S_, .f32⟩
  | .hbm, ⟨41, _⟩ => ⟨S_, .f32⟩
  | .hbm, ⟨42, _⟩ => ⟨S128x1x64, .f32⟩
  | .hbm, ⟨43, _⟩ => ⟨S128x1x64, .f32⟩
  | .hbm, ⟨44, _⟩ => ⟨S128x96x64, .f32⟩
  | .hbm, ⟨45, _⟩ => ⟨S128x96x64, .f32⟩
  | .hbm, ⟨46, _⟩ => ⟨S128x64x96, .f32⟩
  | .hbm, ⟨47, _⟩ => ⟨S128x64x64, .f32⟩
  | .hbm, ⟨48, _⟩ => ⟨S_, .f32⟩
  | .hbm, ⟨49, _⟩ => ⟨S128x64x64, .f32⟩
  | .hbm, ⟨50, _⟩ => ⟨S128x64x64, .f32⟩
  | .hbm, ⟨51, _⟩ => ⟨S128x64x96, .f32⟩
  | .hbm, ⟨52, _⟩ => ⟨S_, .f32⟩
  | .hbm, ⟨53, _⟩ => ⟨S128x64, .f32⟩
  | .hbm, ⟨54, _⟩ => ⟨S128x64x1, .f32⟩
  | .hbm, ⟨55, _⟩ => ⟨S128x64x64, .f32⟩
  | .hbm, ⟨56, _⟩ => ⟨S128x64x64, .f32⟩
  | .hbm, ⟨57, _⟩ => ⟨S128x1x64, .f32⟩
  | .hbm, ⟨58, _⟩ => ⟨S128x64x64, .f32⟩
  | .hbm, ⟨59, _⟩ => ⟨S128x64x64, .f32⟩
  | .hbm, ⟨60, _⟩ => ⟨S128x64x64, .f32⟩
  | .hbm, ⟨61, _⟩ => ⟨S128x64x9, .f32⟩
  | .hbm, ⟨62, _⟩ => ⟨S128x64x9, .i32⟩
  | .hbm, ⟨63, _⟩ => ⟨S_, .i32⟩
  | .hbm, ⟨64, _⟩ => ⟨S128x64x9, .i32⟩
  | .hbm, ⟨65, _⟩ => ⟨S128x64x9, .i1⟩
  | .hbm, ⟨66, _⟩ => ⟨S_, .i32⟩
  | .hbm, ⟨67, _⟩ => ⟨S128x64x9, .i32⟩
  | .hbm, ⟨68, _⟩ => ⟨S128x64x9, .i32⟩
  | .hbm, ⟨69, _⟩ => ⟨S128x64x9, .i32⟩
  | .hbm, ⟨70, _⟩ => ⟨S128x64x9x1, .i32⟩
  | .hbm, ⟨71, _⟩ => ⟨S128x96x64x9, .f32⟩
  | .hbm, ⟨72, _⟩ => ⟨S128x96x64x1, .f32⟩
  | .hbm, ⟨73, _⟩ => ⟨S128x96x64x9, .f32⟩
  | .hbm, ⟨74, _⟩ => ⟨S128x96x64x9, .f32⟩
  | .hbm, ⟨75, _⟩ => ⟨S128x192x64x9, .f32⟩
  | .hbm, ⟨76, _⟩ => ⟨S192x128x64x9, .f32⟩
  | .hbm, ⟨77, _⟩ => ⟨S128x192x64x9, .f32⟩
  | .hbm, ⟨78, _⟩ => ⟨S1x192x1x1, .f32⟩
  | .hbm, ⟨79, _⟩ => ⟨S128x192x64x9, .f32⟩
  | .hbm, ⟨80, _⟩ => ⟨S128x192x64x9, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S128x192x64x9, .f32⟩
  | .hbm, ⟨85, _⟩ => ⟨S128x192x64x9, .f32⟩
  | .hbm, ⟨86, _⟩ => ⟨S1x192x1x1, .f32⟩
  | .hbm, ⟨87, _⟩ => ⟨S128x192x64x9, .f32⟩
  | .hbm, ⟨88, _⟩ => ⟨S128x192x64x9, .f32⟩
  | .hbm, ⟨89, _⟩ => ⟨S1x192x1x1, .f32⟩
  | .hbm, ⟨90, _⟩ => ⟨S128x192x64x9, .f32⟩
  | .hbm, ⟨91, _⟩ => ⟨S128x192x64x9, .f32⟩
  | .hbm, ⟨92, _⟩ => ⟨S_, .f32⟩
  | .hbm, ⟨93, _⟩ => ⟨S128x192x64x9, .f32⟩
  | .hbm, ⟨94, _⟩ => ⟨S128x192x64x9, .f32⟩
  | .hbm, ⟨95, _⟩ => ⟨S_, .f32⟩
  | .hbm, ⟨96, _⟩ => ⟨S128x192x64, .f32⟩
  | .hbm, ⟨97, _⟩ => ⟨S128x192x8x8, .f32⟩
  | .hbm, ⟨98, _⟩ => ⟨S128x8x8x192, .f32⟩
  | .hbm, ⟨99, _⟩ => ⟨S8x4x4x8x8x192, .f32⟩
  | .hbm, ⟨100, _⟩ => ⟨S8x4x8x4x8x192, .f32⟩
  | .hbm, ⟨101, _⟩ => ⟨S8x32x32x192, .f32⟩
  | .hbm, ⟨102, _⟩ => ⟨S8x192x32x32, .f32⟩
  | .hbm, ⟨103, _⟩ => ⟨S96x8x32x32, .f32⟩
  | .hbm, ⟨104, _⟩ => ⟨S8x96x32x32, .f32⟩
  | .hbm, ⟨105, _⟩ => ⟨S1x96x1x1, .f32⟩
  | .hbm, ⟨106, _⟩ => ⟨S8x96x32x32, .f32⟩
  | .hbm, ⟨107, _⟩ => ⟨S8x96x32x32, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8x96x32x32, .f32⟩
  | .hbm, ⟨112, _⟩ => ⟨S8x96x32x32, .f32⟩
  | .hbm, ⟨113, _⟩ => ⟨S1x96x1x1, .f32⟩
  | .hbm, ⟨114, _⟩ => ⟨S8x96x32x32, .f32⟩
  | .hbm, ⟨115, _⟩ => ⟨S8x96x32x32, .f32⟩
  | .hbm, ⟨116, _⟩ => ⟨S1x96x1x1, .f32⟩
  | .hbm, ⟨117, _⟩ => ⟨S8x96x32x32, .f32⟩
  | .hbm, ⟨118, _⟩ => ⟨S8x96x32x32, .f32⟩
  | .hbm, ⟨119, _⟩ => ⟨S8x96x32x32, .f32⟩
  | _, _ => ⟨S8x96x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_values : Ref sig .tc := ⟨.hbm, 61, rfl⟩
abbrev main_indices : Ref sig .tc := ⟨.hbm, 62, rfl⟩
abbrev main_c : Ref sig .tc := ⟨.hbm, 63, rfl⟩
abbrev main_v38 : Ref sig .tc := ⟨.hbm, 64, rfl⟩
abbrev main_v39 : Ref sig .tc := ⟨.hbm, 65, rfl⟩
abbrev main_c_3 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_4 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_cst_5 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_6 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== Proof.Body.lean ====
/-
  What one grid point of the kernel computes, written once: nine rounds of "take the nearest point left, gather it,
  strike it out", eight windows of 64 points side by side, and the two dense layers around them. The store the frame
  names (`Gen.out0_8`) is this function of the blocks loaded.
-/
module

public import proofs.«01_k».proof.Proof.Gen.KernelIdeal.Frame

@[expose] public section

set_option maxRecDepth 16384

noncomputable section

namespace Cert.KernelIdeal.Body

open Idealize.ShloMosaic Idealize.SL.Sem Cert.KernelIdeal Cert.KernelIdeal.Gen

variable {F : FTy → Type} [FloatOps F]

/-- The column numbers of a 64 by 64 table. -/
def cols : IVec S64x64 32 := iota .tc S64x64 32 [1] iota_S64x64_d1_w32

/-- Each row's least entry, spread along the row. -/
def least (d : FVec F S64x64 .f32) : FVec F S64x64 .f32 :=
  broadcastTo S64x64 (shapeCast S64x1 (multiReduction .minimumf [1] S64 d 0x7F800000#32 reduces_S64x64_S64 (.inl rfl) rfl)
    shapeCasts_S64_S64x1) broadcasts_S64x1_S64x64

/-- Each row's first column holding the row's least entry, spread along the row. -/
def firstCol (d : FVec F S64x64 .f32) : IVec S64x64 32 :=
  broadcastTo S64x64 (shapeCast S64x1 (multiReductionI .minsi [1] S64
    (select (cmpf .oeq d (least d)) cols (broadcast S64x64 64#32)) 2147483647#32 reduces_S64x64_S64 rfl)
    shapeCasts_S64_S64x1) broadcasts_S64x1_S64x64

/-- The indicator of that column, row by row. -/
def pick (d : FVec F S64x64 .f32) : FVec F S64x64 .f32 :=
  sitofp .f32 (extui 32 (cmpi .eq cols (firstCol d)) natLt_1_32)

/-- The table with that column struck out, row by row. -/
def strike (d : FVec F S64x64 .f32) : FVec F S64x64 .f32 :=
  select (cmpf .ogt (pick d) (broadcast S64x64 (Scalar.ofBits .f32 0x3F000000#32)))
    (broadcast S64x64 (Scalar.ofBits .f32 0x7F800000#32)) d

/-- The features of the column picked, row by row. -/
def gathered (b : FVec F S192x64 .f32) (d : FVec F S64x64 .f32) : FVec F S192x64 .f32 :=
  matmul dot_S192x64_S64x64_S192x64_1_1_0_0_n_n (some .fp32) b (pick d) (constant S192x64 .f32 0x00000000#32)

/-- One round: strike the picked column out of the table, and take its features into the running maximum. -/
def round (b : FVec F S192x64 .f32) (s : FVec F S64x64 .f32 × FVec F S192x64 .f32) :
    FVec F S64x64 .f32 × FVec F S192x64 .f32 :=
  (strike s.1, maximumf s.2 (gathered b s.1))

/-- The squared distances of the 64 points of the window at column `o`. -/
def dist (xn : FVec F S96x512 .f32) (sq : FVec F S1x512 .f32) (o : Nat) (h1 : S96x512.Slices ![0, o] S96x64)
    (h2 : S1x512.Slices ![0, o] S1x64) : FVec F S64x64 .f32 :=
  subf (addf (broadcastTo S64x64 (transpose S64x1 [1, 0] (extractStridedSlice S1x64 ![0, o] sq h2) transposes_S1x64_p1_0_S64x1)
      broadcasts_S64x1_S64x64) (broadcastTo S64x64 (extractStridedSlice S1x64 ![0, o] sq h2) broadcasts_S1x64_S64x64))
    (mulf (broadcast S64x64 (Scalar.ofBits .f32 0x40000000#32))
      (matmul dot_S96x64_S96x64_S64x64_0_0_1_1_n_n (some .fp32) (extractStridedSlice S96x64 ![0, o] xn h1)
        (extractStridedSlice S96x64 ![0, o] xn h1) (constant S64x64 .f32 0x00000000#32)))

/-- One window's edge features: nine rounds over its distances, then the maximum onto the point's own part. -/
def window (xn : FVec F S96x512 .f32) (sq : FVec F S1x512 .f32) (af bf : FVec F S192x512 .f32) (o : Nat)
    (h1 : S96x512.Slices ![0, o] S96x64) (h2 : S1x512.Slices ![0, o] S1x64) (h3 : S192x512.Slices ![0, o] S192x64) :
    FVec F S192x64 .f32 :=
  maximumf (addf (extractStridedSlice S192x64 ![0, o] af h3)
      ((round (extractStridedSlice S192x64 ![0, o] bf h3))^[9]
        (dist xn sq o h1 h2, broadcast S192x64 (Scalar.ofBits .f32 0xFF800000#32))).2)
    (broadcast S192x64 (Scalar.ofBits .f32 0x00000000#32))

/-- The first dense layer of a block. -/
def dense (x : FVec F S96x512 .f32) (w1 : FVec F S96x96 .f32) (b1 : FVec F S96x1 .f32) : FVec F S96x512 .f32 :=
  addf (matmul dot_S96x96_S96x512_S96x512_1_0_0_1_n_n (some .fp32) w1 x (constant S96x512 .f32 0x00000000#32))
    (broadcastTo S96x512 b1 broadcasts_S96x1_S96x512)

/-- The sum of squares of each column. -/
def squares (y : FVec F S96x512 .f32) : FVec F S1x512 .f32 :=
  shapeCast S1x512 (multiReduction .add [0] S512 (mulf y y) 0x00000000#32 reduces_S96x512_S512 (.inl rfl) rfl)
    shapeCasts_S512_S1x512

/-- Each column scaled to length one (at least the smallest length allowed). -/
def unitCols (y : FVec F S96x512 .f32) : FVec F S96x512 .f32 :=
  mulf y (broadcastTo S96x512 (divf (broadcast S1x512 (Scalar.ofBits .f32 0x3F800000#32))
    (maximumf (sqrt (squares y)) (broadcast S1x512 (Scalar.ofBits .f32 0x2B8CBCCC#32)))) broadcasts_S1x512_S96x512)

/-- A point's own part of its edges. -/
def own (y : FVec F S96x512 .f32) (wa : FVec F S192x96 .f32) (bg : FVec F S192x1 .f32) : FVec F S192x512 .f32 :=
  addf (matmul dot_S192x96_S96x512_S192x512_1_0_0_1_n_n (some .fp32) wa y (constant S192x512 .f32 0x00000000#32))
    (broadcastTo S192x512 bg broadcasts_S192x1_S192x512)

/-- The part of an edge that its far end gives. -/
def far (y : FVec F S96x512 .f32) (wb : FVec F S192x96 .f32) : FVec F S192x512 .f32 :=
  matmul dot_S192x96_S96x512_S192x512_1_0_0_1_n_n (some .fp32) wb y (constant S192x512 .f32 0x00000000#32)

/-- The edge features of a block: its eight windows side by side. -/
def edges (xn : FVec F S96x512 .f32) (sq : FVec F S1x512 .f32) (af bf : FVec F S192x512 .f32) : FVec F S192x512 .f32 :=
  concatenate S192x512 1
    [⟨S192x64, window xn sq af bf 0 slices_S96x512_o0_0_S96x64 slices_S1x512_o0_0_S1x64 slices_S192x512_o0_0_S192x64⟩,
     ⟨S192x64, window xn sq af bf 64 slices_S96x512_o0_64_S96x64 slices_S1x512_o0_64_S1x64 slices_S192x512_o0_64_S192x64⟩,
     ⟨S192x64, window xn sq af bf 128 slices_S96x512_o0_128_S96x64 slices_S1x512_o0_128_S1x64 slices_S192x512_o0_128_S192x64⟩,
     ⟨S192x64, window xn sq af bf 192 slices_S96x512_o0_192_S96x64 slices_S1x512_o0_192_S1x64 slices_S192x512_o0_192_S192x64⟩,
     ⟨S192x64, window xn sq af bf 256 slices_S96x512_o0_256_S96x64 slices_S1x512_o0_256_S1x64 slices_S192x512_o0_256_S192x64⟩,
     ⟨S192x64, window xn sq af bf 320 slices_S96x512_o0_320_S96x64 slices_S1x512_o0_320_S1x64 slices_S192x512_o0_320_S192x64⟩,
     ⟨S192x64, window xn sq af bf 384 slices_S96x512_o0_384_S96x64 slices_S1x512_o0_384_S1x64 slices_S192x512_o0_384_S192x64⟩,
     ⟨S192x64, window xn sq af bf 448 slices_S96x512_o0_448_S96x64 slices_S1x512_o0_448_S1x64 slices_S192x512_o0_448_S192x64⟩]
    concatenates_S192x64_S192x64_S192x64_S192x64_S192x64_S192x64_S192x64_S192x64_S192x512_d1

/-- The last dense layer and the residual. -/
def last (x : FVec F S96x512 .f32) (e : FVec F S192x512 .f32) (w2 : FVec F S96x192 .f32) (b2 : FVec F S96x1 .f32) :
    FVec F S96x512 .f32 :=
  addf (addf (matmul dot_S96x192_S192x512_S96x512_1_0_0_1_n_n (some .fp32) w2 e (constant S96x512 .f32 0x00000000#32))
    (broadcastTo S96x512 b2 broadcasts_S96x1_S96x512)) x

/-- One grid point's block of the result, from the blocks it reads. -/
def block (x : FVec F S96x512 .f32) (w1 : FVec F S96x96 .f32) (b1 : FVec F S96x1 .f32) (wa wb : FVec F S192x96 .f32)
    (bg : FVec F S192x1 .f32) (w2 : FVec F S96x192 .f32) (b2 : FVec F S96x1 .f32) : FVec F S96x512 .f32 :=
  last x (edges (unitCols (dense x w1 b1)) (squares (unitCols (dense x w1 b1))) (own (dense x w1 b1) wa bg)
    (far (dense x w1 b1) wb)) w2 b2

end Cert.KernelIdeal.Body

end
-- ==== Proof.Consts.lean ====
/-
  The float constants the two programs share, as extended reals.
-/
module

public import Idealize.ShloMosaic.PureOps.Ideal
public import Idealize.ShloMosaic.PureOps.Ideal.Laws
public import Idealize.ShloMosaic.Lib.IdealHost

@[expose] public section

namespace Cert.Graph

open Idealize.ShloMosaic

/-- The variance a normalisation divides by, one plus its small constant, as a real. -/
noncomputable def variance : ℝ := 8388692 / 8388608

/-- Its square root. -/
noncomputable def dev : ℝ := Real.sqrt variance

/-- The least length a column is divided by, as a real. -/
noncomputable def tiny : ℝ := 9223372 / 9223372036854775808

theorem variance_pos : 0 < variance := by unfold variance; norm_num

theorem dev_pos : 0 < dev := Real.sqrt_pos.mpr variance_pos

theorem tiny_pos : 0 < tiny := by unfold tiny; norm_num

theorem ofBits_variance : Ideal.ofBits .f32 0x3F800054#32 = ((variance : ℝ) : EReal) := by
  unfold variance
  simp [Ideal.ofBits, Ideal.ieee, -EReal.coe_mul]; norm_num

theorem ofBits_tiny : Ideal.ofBits .f32 0x2B8CBCCC#32 = ((tiny : ℝ) : EReal) := by
  unfold tiny
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul, -EReal.coe_neg]; norm_num

theorem ofBits_half : Ideal.ofBits .f32 0x3F000000#32 = ((1 / 2 : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- The square root of a real that is not negative. -/
theorem sqrt_coe {x : ℝ} (h : 0 ≤ x) : Ideal.sqrt ((x : ℝ) : EReal) = ((Real.sqrt x : ℝ) : EReal) := by
  show (if x < 0 then ⊥ else ((Real.sqrt x : ℝ) : EReal)) = _
  rw [if_neg (not_lt.mpr h)]

/-- The quotient of two reals, the divisor not zero. -/
theorem div_coe {x y : ℝ} (h : y ≠ 0) : Ideal.div ((x : ℝ) : EReal) ((y : ℝ) : EReal) = ((x / y : ℝ) : EReal) := by
  unfold Ideal.div
  rw [if_neg (by exact_mod_cast h), ← EReal.coe_inv, ← EReal.coe_mul, div_eq_mul_inv]

/-- Division by a positive real is multiplication by its inverse, whatever is divided. -/
theorem div_of_pos (x : EReal) {y : ℝ} (h : 0 < y) : Ideal.div x ((y : ℝ) : EReal) = x * ((y⁻¹ : ℝ) : EReal) := by
  unfold Ideal.div
  rw [if_neg (by exact_mod_cast h.ne'), ← EReal.coe_inv]

theorem sqrt_variance : Ideal.sqrt (Ideal.ofBits .f32 0x3F800054#32) = ((dev : ℝ) : EReal) := by
  rw [ofBits_variance, sqrt_coe variance_pos.le, dev]

/-- A sum of reals. -/
theorem coe_sum {ι : Type} (s : Finset ι) (f : ι → ℝ) : (∑ k ∈ s, ((f k : ℝ) : EReal)) = ((∑ k ∈ s, f k : ℝ) : EReal) := by
  induction s using Finset.cons_induction with
  | empty => simp
  | cons a s ha ih => rw [Finset.sum_cons, Finset.sum_cons, ih, EReal.coe_add]

/-- The larger of two reals. -/
theorem coe_max (x y : ℝ) : max ((x : ℝ) : EReal) ((y : ℝ) : EReal) = ((max x y : ℝ) : EReal) :=
  (Monotone.map_max EReal.coe_strictMono.monotone).symm

/-- A value that is neither infinity is a real. -/
theorem coe_toReal_of {x : EReal} (h : x ≠ ⊤ ∧ x ≠ ⊥) : ((x.toReal : ℝ) : EReal) = x := EReal.coe_toReal h.1 h.2

end Cert.Graph
-- ==== Proof.Order.lean ====
/-
  The points of a row in order of distance, equal distances in order of position: `nearest`. It is what a stable sort
  by distance gives, and its `k`-th entry is also the first position of the least entry left after the earlier ones are
  struck out.
-/
module

public import Idealize.ShloMosaic.Lib.SortFacts
public import proofs.«01_k».proof.Proof.Consts

@[expose] public section

namespace Cert.Graph

open Idealize.ShloMosaic

/-- "`a` is strictly nearer than `b`". -/
noncomputable def nearer {n : Nat} (d : Fin n → ℝ) (a b : Fin n) : Bool := decide (d a < d b)

/-- The `k`-th nearest position. -/
noncomputable def nearest {n : Nat} (d : Fin n → ℝ) (k : Fin n) : Fin n := sortedFrom (nearer d) k

/-- `a` comes before `b`: nearer, or as near and at the lower position. -/
def Before {n : Nat} (d : Fin n → ℝ) (a b : Fin n) : Prop := d a < d b ∨ d a = d b ∧ a < b

theorem Before.trans {n : Nat} {d : Fin n → ℝ} {a b c : Fin n} (h : Before d a b) (h' : Before d b c) : Before d a c := by
  rcases h with h | ⟨h, i⟩ <;> rcases h' with h' | ⟨h', i'⟩
  · exact .inl (h.trans h')
  · exact .inl (h' ▸ h)
  · exact .inl (h ▸ h')
  · exact .inr ⟨h.trans h', i.trans i'⟩

/-- Inserting a position lower than all of a list keeps the list in order. -/
theorem pairwise_insert {n : Nat} (d : Fin n → ℝ) (a : Fin n) (l : List (Fin n)) (ha : ∀ b ∈ l, a < b)
    (hl : l.Pairwise (Before d)) : (insertBefore (nearer d) a l).Pairwise (Before d) := by
  induction l with
  | nil => exact List.pairwise_singleton _ _
  | cons b l ih =>
    rw [List.pairwise_cons] at hl
    have hab : a < b := ha b (List.mem_cons_self ..)
    unfold insertBefore
    split
    · rename_i h
      have h : d b < d a := of_decide_eq_true h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl h
      · exact hl.1 c hc'
    · rename_i h
      have h : ¬ d b < d a := fun hlt => h (decide_eq_true hlt)
      have hb : Before d a b := by
        rcases lt_or_eq_of_le (not_lt.mp h) with h' | h'
        · exact .inl h'
        · exact .inr ⟨h', hab⟩
      refine List.pairwise_cons.mpr ⟨fun c hc => ?_, List.pairwise_cons.mpr hl⟩
      rcases List.mem_cons.mp hc with rfl | hc'
      · exact hb
      · exact hb.trans (hl.1 c hc')

/-- A stable sort by distance of positions in increasing order is in order. -/
theorem pairwise_sort {n : Nat} (d : Fin n → ℝ) (l : List (Fin n)) (hl : l.Pairwise (· < ·)) :
    (stableSort (nearer d) l).Pairwise (Before d) := by
  induction l with
  | nil => exact List.Pairwise.nil
  | cons a l ih =>
    rw [List.pairwise_cons] at hl
    unfold stableSort
    exact pairwise_insert d a _ (fun b hb => hl.1 b ((perm_stableSort _ l).mem_iff.mp hb)) (ih hl.2)

/-- Earlier entries of `nearest` come before later ones. -/
theorem nearest_before {n : Nat} (d : Fin n → ℝ) {i j : Fin n} (hij : i < j) : Before d (nearest d i) (nearest d j) := by
  have hp : ∀ a b : Fin (sortPositions n (nearer d)).length, a < b →
      Before d ((sortPositions n (nearer d)).get a) ((sortPositions n (nearer d)).get b) :=
    List.pairwise_iff_get.mp (pairwise_sort d _ (List.pairwise_lt_finRange n))
  unfold nearest sortedFrom
  exact hp _ _ (by simp only [Fin.lt_def, Fin.val_cast]; exact hij)

/-- Every position is some entry of `nearest`. -/
theorem nearest_surjective {n : Nat} (d : Fin n → ℝ) : Function.Surjective (nearest d) := sortedFrom_surjective _

theorem nearest_injective {n : Nat} (d : Fin n → ℝ) : Function.Injective (nearest d) := sortedFrom_injective _

/-- The row with its first `k` nearest struck out. -/
noncomputable def struck {n : Nat} (d : Fin n → ℝ) (k : Nat) (j : Fin n) : EReal :=
  open Classical in if ∃ m : Fin n, (m : Nat) < k ∧ nearest d m = j then ⊤ else ((d j : ℝ) : EReal)

theorem struck_zero {n : Nat} (d : Fin n → ℝ) (j : Fin n) : struck d 0 j = ((d j : ℝ) : EReal) := by
  unfold struck; rw [if_neg]; rintro ⟨m, h, -⟩; exact absurd h (Nat.not_lt_zero _)

/-- The `k`-th nearest is still there before round `k`. -/
theorem struck_nearest {n : Nat} (d : Fin n → ℝ) (k : Fin n) : struck d k (nearest d k) = ((d (nearest d k) : ℝ) : EReal) := by
  unfold struck; rw [if_neg]; rintro ⟨m, h, e⟩
  exact absurd (congrArg Fin.val (nearest_injective d e)) (Nat.ne_of_lt h)

/-- Striking the `k`-th nearest out leads to the next round. -/
theorem struck_succ {n : Nat} (d : Fin n → ℝ) (k : Fin n) (j : Fin n) :
    struck d (k + 1) j = if j = nearest d k then ⊤ else struck d k j := by
  classical
  unfold struck
  by_cases hj : j = nearest d k
  · rw [if_pos hj, if_pos ⟨k, Nat.lt_succ_self _, hj.symm⟩]
  · rw [if_neg hj]
    congr 1
    refine propext ⟨fun ⟨m, h, e⟩ => ⟨m, ?_, e⟩, fun ⟨m, h, e⟩ => ⟨m, Nat.lt_succ_of_lt h, e⟩⟩
    rcases Nat.lt_succ_iff_lt_or_eq.mp h with h | h
    · exact h
    · exact absurd (by rw [← e, Fin.ext h]) hj

/-- Nothing left in round `k` is nearer than the `k`-th nearest. -/
theorem le_struck {n : Nat} (d : Fin n → ℝ) (k : Fin n) (j : Fin n) : ((d (nearest d k) : ℝ) : EReal) ≤ struck d k j := by
  unfold struck
  split
  · exact le_top
  · rename_i h
    obtain ⟨m, rfl⟩ := nearest_surjective d j
    rcases lt_trichotomy m k with hm | hm | hm
    · exact absurd ⟨m, hm, rfl⟩ h
    · rw [hm]
    · rcases nearest_before d hm with h' | h'
      · exact EReal.coe_le_coe_iff.mpr h'.le
      · exact EReal.coe_le_coe_iff.mpr h'.1.le

/-- And a position as near as it that is still left is not a lower one. -/
theorem nearest_le_of_struck_eq {n : Nat} (d : Fin n → ℝ) (k : Fin n) (j : Fin n)
    (h : struck d k j = ((d (nearest d k) : ℝ) : EReal)) : nearest d k ≤ j := by
  unfold struck at h
  split at h
  · exact absurd h.symm (EReal.coe_ne_top _)
  · rename_i h'
    have h := EReal.coe_eq_coe_iff.mp h
    obtain ⟨m, rfl⟩ := nearest_surjective d j
    rcases lt_trichotomy m k with hm | hm | hm
    · exact absurd ⟨m, hm, rfl⟩ h'
    · rw [hm]
    · rcases nearest_before d hm with h'' | h''
      · exact absurd h h''.ne'
      · exact h''.2.le

end Cert.Graph
-- ==== Proof.Rounds.lean ====
/-
  The nine rounds of a window: round `k` picks each row's `k`-th nearest position, and the running maximum after the
  rounds is the maximum over the nearest positions.
-/
module

public import proofs.«01_k».proof.Proof.Body
public import proofs.«01_k».proof.Proof.Order
public import Idealize.ShloMosaic.Lib.Pointwise

@[expose] public section

set_option maxRecDepth 16384

noncomputable section

namespace Cert.KernelIdeal.Body

open Idealize.ShloMosaic Idealize.SL.Sem Cert.KernelIdeal Cert.KernelIdeal.Gen Cert.Graph

/-- The least value of a row in round `k` is that of its `k`-th nearest position. -/
theorem fold_min_struck (d : Fin 64 → ℝ) (k : Fin 64) :
    Finset.fold min (Ideal.ofBits FTy.f32 0x7F800000#32) (fun x => struck d k x) Finset.univ
      = ((d (nearest d k) : ℝ) : EReal) := by
  refine le_antisymm ?_ ?_
  · exact (Finset.fold_min_le _).mpr (.inr ⟨nearest d k, Finset.mem_univ _, (struck_nearest d k).le⟩)
  · exact (Finset.le_fold_min _).mpr ⟨ofBits_top ▸ le_top, fun j _ => le_struck d k j⟩

/-- Small words read as signed integers are themselves. -/
theorem toInt_ofNat {n : Nat} (h : n < 2 ^ 31) : (BitVec.ofNat 32 n).toInt = n := by
  rw [BitVec.toInt_ofNat']
  simp only [Int.bmod_def]
  omega

/-- A word is at most a signed minimum exactly if it is at most each entry. -/
theorem le_fold_minsi (c : BitVec 32) (f : Fin 64 → BitVec 32) :
    c.toInt ≤ (Finset.fold IntOp.minsi 2147483647#32 f Finset.univ).toInt ↔ ∀ j, c.toInt ≤ (f j).toInt := by
  have h := Finset.fold_op_rel_iff_and (op := IntOp.minsi (w := 32)) (r := fun x y => x.toInt ≤ y.toInt) (b := 2147483647#32)
    (f := f) (s := Finset.univ) (fun {x y z} => by
      unfold IntOp.minsi
      split <;> rename_i hlt <;> simp only [BitVec.slt, decide_eq_true_eq] at hlt <;> omega) (c := c)
  rw [h]
  have hc : c.toInt ≤ (2147483647#32 : BitVec 32).toInt := by
    have h1 := BitVec.toInt_lt (x := c)
    have : (2147483647#32 : BitVec 32).toInt = 2147483647 := by decide
    rw [this]; norm_num at h1; omega
  exact ⟨fun h j => h.2 j (Finset.mem_univ _), fun h => ⟨hc, fun j _ => h j⟩⟩

/-- The signed minimum of "the position where `P` holds, else 64" is the first position where `P` holds. -/
theorem fold_first (P : Fin 64 → Prop) [DecidablePred P] (p : Fin 64) (hp : P p) (hlt : ∀ j, P j → p ≤ j) :
    Finset.fold IntOp.minsi 2147483647#32 (fun x => if P x then BitVec.ofNat 32 x else 64#32) Finset.univ
      = BitVec.ofNat 32 p := by
  refine BitVec.eq_of_toInt_eq (le_antisymm ?_ ?_)
  · have := (le_fold_minsi _ _).mp (le_refl (Finset.fold IntOp.minsi 2147483647#32
      (fun x : Fin 64 => if P x then BitVec.ofNat 32 x else 64#32) Finset.univ).toInt) p
    rwa [if_pos hp] at this
  · refine (le_fold_minsi _ _).mpr fun j => ?_
    rw [toInt_ofNat (by omega)]
    split
    · rename_i hj
      rw [toInt_ofNat (by omega)]
      exact_mod_cast hlt j hj
    · have : (64#32 : BitVec 32).toInt = 64 := by decide
      rw [this]; omega

/-- Round `k` picks the `k`-th nearest position of each row. -/
theorem pick_struck (d : FVec Ideal S64x64 .f32) (D : Fin 64 → Fin 64 → ℝ) (k : Fin 64)
    (h : ∀ i j : Fin 64, d (ix2 i j) = struck (D i) k j) (i j : Fin 64) :
    pick d (ix2 i j) = if j = nearest (D i) k then 1 else 0 := by
  pointwise [pick, firstCol, least, cols]
  simp only [h, fold_min_struck]
  rw [fold_first (fun x => struck (D i) k x = ((D i (nearest (D i) k) : ℝ) : EReal)) (nearest (D i) k) (struck_nearest (D i) k) (fun j hj => nearest_le_of_struck_eq (D i) k j hj)]
  have hw : IntOp.cmpi CmpIPredicate.eq (BitVec.ofNat 32 (j : Nat)) (BitVec.ofNat 32 (nearest (D i) k : Nat))
      = if j = nearest (D i) k then 1#1 else 0#1 := by
    by_cases hj : j = nearest (D i) k
    · rw [if_pos hj, hj]; simp [IntOp.cmpi]
    · rw [if_neg hj]
      have : BitVec.ofNat 32 (j : Nat) ≠ BitVec.ofNat 32 (nearest (D i) k : Nat) := fun e => hj (Fin.ext (by
        have := congrArg BitVec.toInt e
        rw [toInt_ofNat (by omega), toInt_ofNat (by omega)] at this
        exact_mod_cast this))
      rw [IntOp.cmpi, beq_eq_false_iff_ne.mpr this]
      rfl
  rw [hw]
  by_cases hj : j = nearest (D i) k
  · rw [if_pos hj, if_pos hj]
    show ((((1#1 : BitVec 1).setWidth 32).toInt : ℝ) : EReal) = 1
    norm_num
  · rw [if_neg hj, if_neg hj]
    show ((((0#1 : BitVec 1).setWidth 32).toInt : ℝ) : EReal) = 0
    norm_num

/-- Striking the pick out leads to the next round's table. -/
theorem strike_struck (d : FVec Ideal S64x64 .f32) (D : Fin 64 → Fin 64 → ℝ) (k : Fin 64)
    (h : ∀ i j : Fin 64, d (ix2 i j) = struck (D i) k j) (i j : Fin 64) :
    strike d (ix2 i j) = struck (D i) (k + 1) j := by
  pointwise [strike]
  rw [pick_struck d D k h, h, ofBits_half, ofBits_top, struck_succ]
  by_cases hj : j = nearest (D i) k
  · rw [if_pos hj, if_pos hj, if_pos]
    exact_mod_cast (by norm_num : (1 / 2 : ℝ) < 1)
  · rw [if_neg hj, if_neg hj, if_neg]
    exact not_lt.mpr (by exact_mod_cast (by norm_num : (0 : ℝ) ≤ 1 / 2))

/-- Round `k` gathers the features of the `k`-th nearest position. -/
theorem gathered_struck (b : FVec Ideal S192x64 .f32) (d : FVec Ideal S64x64 .f32) (D : Fin 64 → Fin 64 → ℝ) (k : Fin 64)
    (h : ∀ i j : Fin 64, d (ix2 i j) = struck (D i) k j) (o : Fin 192) (i : Fin 64) :
    gathered b d (ix2 o i) = b (ix2 o (nearest (D i) k)) := by
  pointwise [gathered]
  simp only [pick_struck d D k h]
  rw [Finset.sum_eq_single (nearest (D i) k)]
  · rw [if_pos rfl, mul_one]
  · intro j _ hj; rw [if_neg hj, mul_zero]
  · intro hn; exact absurd (Finset.mem_univ _) hn

/-- After `k` rounds: the first `k` nearest are struck out, and the running maximum is over their features. -/
theorem rounds (b : FVec Ideal S192x64 .f32) (d : FVec Ideal S64x64 .f32) (D : Fin 64 → Fin 64 → ℝ)
    (h : ∀ i j : Fin 64, d (ix2 i j) = ((D i j : ℝ) : EReal)) (k : Nat) (hk : k ≤ 64) :
    (∀ i j : Fin 64, ((round b)^[k] (d, broadcast S192x64 (Scalar.ofBits .f32 0xFF800000#32))).1 (ix2 i j) = struck (D i) k j)
    ∧ ∀ (o : Fin 192) (i : Fin 64), ((round b)^[k] (d, broadcast S192x64 (Scalar.ofBits .f32 0xFF800000#32))).2 (ix2 o i)
      = Finset.univ.sup fun m : Fin k => b (ix2 o (nearest (D i) ⟨m, m.isLt.trans_le hk⟩)) := by
  induction k with
  | zero =>
    refine ⟨fun i j => ?_, fun o i => ?_⟩
    · rw [struck_zero]; exact h i j
    · rw [Finset.univ_eq_empty, Finset.sup_empty]; exact ofBits_bot
  | succ k ih =>
    obtain ⟨h1, h2⟩ := ih (by omega)
    refine ⟨fun i j => ?_, fun o i => ?_⟩
    · rw [Function.iterate_succ_apply']
      exact strike_struck _ D ⟨k, by omega⟩ h1 i j
    · rw [Function.iterate_succ_apply']
      show max _ _ = _
      rw [h2, gathered_struck b _ D ⟨k, by omega⟩ h1, Fin.univ_castSuccEmb, Finset.sup_cons, Finset.sup_map, sup_comm]
      rfl

end Cert.KernelIdeal.Body

end
-- ==== Proof.Spec.lean ====
/-
  The window graph convolution over the reals: from the features of one window's 64 points, the scaled features, the
  squared distances, the nine nearest points, and the maximum over them of an edge's features.
-/
module

public import proofs.«01_k».proof.Proof.Order

@[expose] public section

namespace Cert.Graph

open Idealize.ShloMosaic

section window
variable {C : Nat} (Y : Fin C → Fin 64 → ℝ)

/-- The length a point's features are divided by: their Euclidean length, or the least length allowed. -/
noncomputable def len (n : Fin 64) : ℝ := max tiny (Real.sqrt (∑ c, Y c n * Y c n))

theorem len_pos (n : Fin 64) : 0 < len Y n := lt_max_of_lt_left tiny_pos

/-- A point's features, scaled. -/
noncomputable def scaled (c : Fin C) (n : Fin 64) : ℝ := Y c n / len Y n

/-- The squared length of a point's scaled features. -/
noncomputable def norm2 (n : Fin 64) : ℝ := ∑ c, scaled Y c n * scaled Y c n

/-- The squared distance of two points' scaled features. -/
noncomputable def gap (i j : Fin 64) : ℝ := norm2 Y i + -2 * (∑ c, scaled Y c i * scaled Y c j) + norm2 Y j

/-- The `k`-th of a point's nine nearest points. -/
noncomputable def neighbour (i : Fin 64) (k : Fin 9) : Fin 64 := nearest (gap Y i) ⟨k, by omega⟩

/-- The largest, over the nine nearest points, of what a point and its neighbour give together, negative values
    cut off. -/
noncomputable def edge (a b : Fin 64 → ℝ) (i : Fin 64) : ℝ :=
  Finset.univ.sup' ⟨(0 : Fin 9), Finset.mem_univ _⟩ fun k => max (a i + b (neighbour Y i k)) 0

end window

/-- The largest of nine reals, as extended reals. -/
theorem sup_coe (f : Fin 9 → ℝ) : (Finset.univ.sup fun k => ((f k : ℝ) : EReal))
    = ((Finset.univ.sup' ⟨(0 : Fin 9), Finset.mem_univ _⟩ f : ℝ) : EReal) := by
  refine le_antisymm (Finset.sup_le fun k hk => EReal.coe_le_coe_iff.mpr (Finset.le_sup' f hk)) ?_
  obtain ⟨k, hk, e⟩ := Finset.exists_mem_eq_sup' ⟨(0 : Fin 9), Finset.mem_univ _⟩ f
  rw [e]
  exact Finset.le_sup (f := fun k => ((f k : ℝ) : EReal)) hk

/-- Adding the same amount and cutting off below zero after the largest is taken, or before. -/
theorem max_add_sup (a : ℝ) (f : Fin 9 → ℝ) :
    max (a + Finset.univ.sup' ⟨(0 : Fin 9), Finset.mem_univ _⟩ f) 0
      = Finset.univ.sup' ⟨(0 : Fin 9), Finset.mem_univ _⟩ fun k => max (a + f k) 0 := by
  refine le_antisymm ?_ (Finset.sup'_le _ _ fun k hk => max_le_max (add_le_add le_rfl (Finset.le_sup' f hk)) le_rfl)
  obtain ⟨k, hk, e⟩ := Finset.exists_mem_eq_sup' ⟨(0 : Fin 9), Finset.mem_univ _⟩ f
  rw [e]
  exact Finset.le_sup' (fun k => max (a + f k) 0) hk

/-- The largest of a window's nine far ends, taken first. -/
theorem edge_eq {C : Nat} (Y : Fin C → Fin 64 → ℝ) (a b : Fin 64 → ℝ) (i : Fin 64) :
    max (((a i : ℝ) : EReal) + Finset.univ.sup fun k : Fin 9 => ((b (neighbour Y i k) : ℝ) : EReal)) 0
      = ((edge Y a b i : ℝ) : EReal) := by
  rw [sup_coe, ← EReal.coe_add, ← EReal.coe_zero, coe_max, max_add_sup]
  rfl

end Cert.Graph
-- ==== Proof.BlockValue.lean ====
/-
  The block of the result one grid point stores, element by element over the reals: at window `g`, point `n`, the last
  layer of the window's edge features, plus the input.
-/
module

public import proofs.«01_k».proof.Proof.Rounds
public import proofs.«01_k».proof.Proof.Spec

@[expose] public section

set_option maxRecDepth 16384

noncomputable section

namespace Cert.KernelIdeal.Body

open Idealize.ShloMosaic Idealize.SL.Sem Cert.KernelIdeal Cert.KernelIdeal.Gen Cert.Graph

/-- The column of point `n` of window `g` in a block. -/
def col (g : Fin 8) (n : Fin 64) : Fin 512 := ⟨64 * g + n, by omega⟩

/-- The first layer at a window of real data. -/
theorem dense_real (x : FVec Ideal S96x512 .f32) (w1 : FVec Ideal S96x96 .f32) (b1 : FVec Ideal S96x1 .f32)
    (X : Fin 96 → Fin 64 → ℝ) (W1 : Fin 96 → Fin 96 → ℝ) (B1 : Fin 96 → ℝ) (g : Fin 8)
    (hx : ∀ k n, x (ix2 k (col g n)) = ((X k n : ℝ) : EReal)) (hw : ∀ c k, w1 (ix2 c k) = ((W1 c k : ℝ) : EReal))
    (hb : ∀ c, b1 (ix2 c 0) = ((B1 c : ℝ) : EReal)) (c : Fin 96) (n : Fin 64) :
    dense x w1 b1 (ix2 c (col g n)) = ((∑ k, W1 c k * X k n + B1 c : ℝ) : EReal) := by
  pointwise [dense]
  simp only [hx, hw, hb, ← EReal.coe_mul]
  rw [coe_sum, ← EReal.coe_add]

/-- The scaled features at a window of real data. -/
theorem unitCols_real (y : FVec Ideal S96x512 .f32) (Y : Fin 96 → Fin 64 → ℝ) (g : Fin 8)
    (hy : ∀ c n, y (ix2 c (col g n)) = ((Y c n : ℝ) : EReal)) (c : Fin 96) (n : Fin 64) :
    unitCols y (ix2 c (col g n)) = ((scaled Y c n : ℝ) : EReal) := by
  pointwise [unitCols, squares]
  simp only [hy, ← EReal.coe_mul]
  rw [coe_sum, sqrt_coe (Finset.sum_nonneg fun c _ => mul_self_nonneg _), ofBits_tiny, coe_max, max_comm, ← EReal.coe_one]
  have h := (len_pos Y n).ne'
  unfold len at h
  rw [div_coe h, ← EReal.coe_mul]
  unfold scaled len
  rw [div_eq_mul_one_div (Y c n)]

/-- The squared lengths at a window of real data. -/
theorem squares_real (y : FVec Ideal S96x512 .f32) (Y : Fin 96 → Fin 64 → ℝ) (g : Fin 8)
    (hy : ∀ c n, y (ix2 c (col g n)) = ((Y c n : ℝ) : EReal)) (n : Fin 64) :
    squares y (ix2 0 (col g n)) = ((∑ c, Y c n * Y c n : ℝ) : EReal) := by
  pointwise [squares]
  simp only [hy, ← EReal.coe_mul]
  rw [coe_sum]

/-- The squared distances at a window of real data. -/
theorem dist_real (xn : FVec Ideal S96x512 .f32) (sq : FVec Ideal S1x512 .f32) (Y : Fin 96 → Fin 64 → ℝ) (g : Fin 8)
    (hn : ∀ c n, xn (ix2 c (col g n)) = ((scaled Y c n : ℝ) : EReal)) (hs : ∀ n, sq (ix2 0 (col g n)) = ((norm2 Y n : ℝ) : EReal))
    (h1 : S96x512.Slices ![0, 64 * (g : Nat)] S96x64) (h2 : S1x512.Slices ![0, 64 * (g : Nat)] S1x64) (i j : Fin 64) :
    dist xn sq (64 * g) h1 h2 (ix2 i j) = ((gap Y i j : ℝ) : EReal) := by
  unfold col at hn hs
  pointwise [dist]
  simp only [hn, hs, ← EReal.coe_mul]
  rw [coe_sum, ofBits_two, ← EReal.coe_mul, ← EReal.coe_add, ← EReal.coe_sub]
  congr 1
  unfold gap
  ring

/-- One window's edge features over the reals. -/
theorem window_real (xn : FVec Ideal S96x512 .f32) (sq : FVec Ideal S1x512 .f32) (af bf : FVec Ideal S192x512 .f32)
    (Y : Fin 96 → Fin 64 → ℝ) (A B : Fin 192 → Fin 64 → ℝ) (g : Fin 8)
    (hn : ∀ c n, xn (ix2 c (col g n)) = ((scaled Y c n : ℝ) : EReal)) (hs : ∀ n, sq (ix2 0 (col g n)) = ((norm2 Y n : ℝ) : EReal))
    (ha : ∀ c n, af (ix2 c (col g n)) = ((A c n : ℝ) : EReal)) (hb : ∀ c n, bf (ix2 c (col g n)) = ((B c n : ℝ) : EReal))
    (o : Nat) (ho : o = 64 * g) (h1 : S96x512.Slices ![0, o] S96x64) (h2 : S1x512.Slices ![0, o] S1x64)
    (h3 : S192x512.Slices ![0, o] S192x64) (c : Fin 192) (i : Fin 64) :
    window xn sq af bf o h1 h2 h3 (ix2 c i) = ((edge Y (A c) (B c) i : ℝ) : EReal) := by
  subst ho
  have hr := (rounds (extractStridedSlice S192x64 ![0, 64 * (g : Nat)] bf h3) (dist xn sq (64 * g) h1 h2) (gap Y)
    (dist_real xn sq Y g hn hs h1 h2) 9 (by omega)).2 c i
  rw [← edge_eq]
  unfold col at ha hb
  pointwise [window]
  rw [ha]
  refine (congrArg (fun z => max (((A c i : ℝ) : EReal) + z) 0) hr).trans ?_
  pointwise
  simp only [hb]
  rfl

/-- The eight windows side by side: column `n` of window `g` holds that window's edge features. -/
theorem edges_real (xn : FVec Ideal S96x512 .f32) (sq : FVec Ideal S1x512 .f32) (af bf : FVec Ideal S192x512 .f32)
    (Y : Fin 96 → Fin 64 → ℝ) (A B : Fin 192 → Fin 64 → ℝ) (g : Fin 8)
    (hn : ∀ c n, xn (ix2 c (col g n)) = ((scaled Y c n : ℝ) : EReal)) (hs : ∀ n, sq (ix2 0 (col g n)) = ((norm2 Y n : ℝ) : EReal))
    (ha : ∀ c n, af (ix2 c (col g n)) = ((A c n : ℝ) : EReal)) (hb : ∀ c n, bf (ix2 c (col g n)) = ((B c n : ℝ) : EReal))
    (c : Fin 192) (i : Fin 64) :
    edges xn sq af bf (ix2 c (col g i)) = ((edge Y (A c) (B c) i : ℝ) : EReal) := by
  have hw := window_real xn sq af bf Y A B g hn hs ha hb
  unfold col
  pointwise [edges]
  have hg := g.isLt
  have hi := i.isLt
  split_ifs <;>
  · refine (hw _ (by omega) _ _ _ c _).trans ?_
    exact congrArg (fun m : Fin 64 => ((edge Y (A c) (B c) m : ℝ) : EReal)) (Fin.ext (by dsimp only; omega))

/-- One window of a block of the result over the reals: the last layer of the window's edge features, plus the input. -/
theorem block_real (x : FVec Ideal S96x512 .f32) (w1 : FVec Ideal S96x96 .f32) (b1 : FVec Ideal S96x1 .f32)
    (wa wb : FVec Ideal S192x96 .f32) (bg : FVec Ideal S192x1 .f32) (w2 : FVec Ideal S96x192 .f32) (b2 : FVec Ideal S96x1 .f32)
    (X : Fin 96 → Fin 64 → ℝ) (W1 : Fin 96 → Fin 96 → ℝ) (B1 : Fin 96 → ℝ) (Wa Wb : Fin 192 → Fin 96 → ℝ)
    (Bg : Fin 192 → ℝ) (W2 : Fin 96 → Fin 192 → ℝ) (g : Fin 8)
    (hx : ∀ k n, x (ix2 k (col g n)) = ((X k n : ℝ) : EReal)) (hw1 : ∀ c k, w1 (ix2 c k) = ((W1 c k : ℝ) : EReal))
    (hb1 : ∀ c, b1 (ix2 c 0) = ((B1 c : ℝ) : EReal)) (hwa : ∀ c k, wa (ix2 c k) = ((Wa c k : ℝ) : EReal))
    (hwb : ∀ c k, wb (ix2 c k) = ((Wb c k : ℝ) : EReal)) (hbg : ∀ c, bg (ix2 c 0) = ((Bg c : ℝ) : EReal))
    (hw2 : ∀ c k, w2 (ix2 c k) = ((W2 c k : ℝ) : EReal))
    (Y : Fin 96 → Fin 64 → ℝ) (hY : ∀ c n, Y c n = ∑ k, W1 c k * X k n + B1 c) (o : Fin 96) (n : Fin 64) :
    block x w1 b1 wa wb bg w2 b2 (ix2 o (col g n))
      = ((∑ c, W2 o c * edge Y (fun m => ∑ k, Wa c k * Y k m + Bg c) (fun m => ∑ k, Wb c k * Y k m) n : ℝ) : EReal)
        + b2 (ix2 o 0) + ((X o n : ℝ) : EReal) := by
  have hy : ∀ c n, dense x w1 b1 (ix2 c (col g n)) = ((Y c n : ℝ) : EReal) := fun c n => by
    rw [dense_real x w1 b1 X W1 B1 g hx hw1 hb1 c n, hY]
  have hn := unitCols_real _ Y g hy
  have hs := squares_real _ (scaled Y) g hn
  have ha : ∀ c n, own (dense x w1 b1) wa bg (ix2 c (col g n)) = ((∑ k, Wa c k * Y k n + Bg c : ℝ) : EReal) := fun c n => by
    pointwise [own]
    simp only [hy, hwa, hbg, ← EReal.coe_mul]
    rw [coe_sum, ← EReal.coe_add]
  have hb : ∀ c n, far (dense x w1 b1) wb (ix2 c (col g n)) = ((∑ k, Wb c k * Y k n : ℝ) : EReal) := fun c n => by
    pointwise [far]
    simp only [hy, hwb, ← EReal.coe_mul]
    rw [coe_sum]
  have he := edges_real _ _ _ _ Y _ _ g hn hs ha hb
  unfold block
  pointwise [last]
  simp only [he, hw2, hx, ← EReal.coe_mul]
  rw [coe_sum]

end Cert.KernelIdeal.Body

end
-- ==== Proof.Out.lean ====
/-
  What one grid point leaves in the result's block is `block` of the blocks it reads.
-/
module

public import proofs.«01_k».proof.Proof.Body
public import Idealize.ShloMosaic.Lib.Pipeline.ValueKit

@[expose] public section

set_option maxRecDepth 65536

noncomputable section

namespace Cert.KernelIdeal.Body

open Idealize.ShloMosaic Idealize.SL.Sem Cert.KernelIdeal Cert.KernelIdeal.Gen

variable {F : FTy → Type} [FloatOps F]
variable (x0 : Vec F S96x512 .f32) (x1 : Vec F S96x96 .f32) (x2 : Vec F S96x1 .f32) (x3 x4 : Vec F S192x96 .f32)
  (x5 : Vec F S192x1 .f32) (x6 : Vec F S96x192 .f32) (x7 : Vec F S96x1 .f32)

set_option maxHeartbeats 4000000 in
/-- The stored block, its eight windows' rounds gathered. -/
theorem out_raw : out0_8 x0 x1 x2 x3 x4 x5 x6 x7 = View.canon [⟨r0_0, last (k0_pay2 (View.ld x0 r0_0))
    (edges (k0_pay205 x0 x1 x2 x3 x4 x5 x6 x7) (k0_pay206 x0 x1 x2 x3 x4 x5 x6 x7)
      (k0_pay207 x0 x1 x2 x3 x4 x5 x6 x7) (k0_pay208 x0 x1 x2 x3 x4 x5 x6 x7))
    (shapeCast S96x192 (View.ld x6 r0_5) shapeCasts_S96x192_S96x192) (shapeCast S96x1 (View.ld x7 r0_2) shapeCasts_S96x1_S96x1)⟩] := by
  rfl

/-- The first dense layer, as the body computes it. -/
theorem pay3_eq (x0 : Vec F S96x512 .f32) (x1 : Vec F S96x96 .f32) (x2 : Vec F S96x1 .f32) :
    k0_pay3 x0 x1 x2 = dense x0 x1 x2 := by
  unfold k0_pay3 k0_pay2 dense
  dsimp only
  rw [shapeCast_self, shapeCast_self, shapeCast_self]

/-- The scaled features, as the body computes them. -/
theorem pay4_eq : k0_pay4 x0 x1 x2 = unitCols (dense x0 x1 x2) := by
  unfold k0_pay4 unitCols squares
  dsimp only
  rw [pay3_eq]

/-- The squared lengths, as the body computes them. -/
theorem pay5_eq : k0_pay5 x0 x1 x2 = squares (unitCols (dense x0 x1 x2)) := by
  unfold k0_pay5 squares
  dsimp only
  rw [pay4_eq]

/-- A point's own part, as the body computes it. -/
theorem pay6_eq : k0_pay6 x0 x1 x2 x3 x5 = own (dense x0 x1 x2) x3 x5 := by
  unfold k0_pay6 own
  dsimp only
  rw [pay3_eq]
  simp only [shapeCast_self]

/-- The far end's part, as the body computes it. -/
theorem pay7_eq : k0_pay7 x0 x1 x2 x4 = far (dense x0 x1 x2) x4 := by
  unfold k0_pay7 far
  dsimp only
  rw [pay3_eq]
  simp only [shapeCast_self]

/-- The stored block is `block` of the blocks read. -/
theorem out_eq : out0_8 x0 x1 x2 x3 x4 x5 x6 x7 = block x0 x1 x2 x3 x4 x5 x6 x7 := by
  have h2 : (![0, 0] : Fin 2 → Nat) = fun _ => 0 := by decide
  rw [out_raw, View.canon_unit_zero h2]
  unfold k0_pay205 k0_pay206 k0_pay207 k0_pay208
  rw [pay4_eq, pay5_eq, pay6_eq, pay7_eq]
  unfold k0_pay2 block
  dsimp only
  have e0 : View.ld x0 r0_0 = x0 := View.ld_unit_zero h2 _ x0
  have e1 : View.ld x1 r0_1 = x1 := View.ld_unit_zero h2 _ x1
  have e2 : View.ld x2 r0_2 = x2 := View.ld_unit_zero h2 _ x2
  have e3 : View.ld x3 r0_3 = x3 := View.ld_unit_zero h2 _ x3
  have e4 : View.ld x4 r0_3 = x4 := View.ld_unit_zero h2 _ x4
  have e5 : View.ld x5 r0_4 = x5 := View.ld_unit_zero h2 _ x5
  have e6 : View.ld x6 r0_5 = x6 := View.ld_unit_zero h2 _ x6
  have e7 : View.ld x7 r0_2 = x7 := View.ld_unit_zero h2 _ x7
  have s0 : shapeCast S96x512 x0 shapeCasts_S96x512_S96x512 = x0 := shapeCast_self x0 _
  have s6 : shapeCast S96x192 x6 shapeCasts_S96x192_S96x192 = x6 := shapeCast_self x6 _
  have s7 : shapeCast S96x1 x7 shapeCasts_S96x1_S96x1 = x7 := shapeCast_self x7 _
  rw [e0, e1, e2, e3, e4, e5, e6, e7, s0, s6, s7]

end Cert.KernelIdeal.Body

end
-- ==== Proof.Array.lean ====
/-
  What the kernel's array holds after the run: every block of 512 columns is `block` of the input's same columns.
-/
module

public import proofs.«01_k».proof.Proof.Out

@[expose] public section

set_option maxRecDepth 16384

noncomputable section

namespace Cert.KernelIdeal.Body

open Idealize.ShloMosaic Idealize.SL.Sem Cert.KernelIdeal Cert.KernelIdeal.Gen

/-- Columns `512 t`, …, `512 t + 511` of the windowed input. -/
def slab {F : FTy → Type} (xw : FVec F S96x8192 .f32) (t : Fin 16) : FVec F S96x512 .f32 :=
  fun y => xw (ix2 (y 0) ⟨512 * t + (y 1).val, by have := (y 1).isLt; have h : S96x512.size 1 = 512 := rfl; omega⟩)

/-- The whole result, still windowed: column `l` lies in block `l / 512`. -/
def blocks {F : FTy → Type} [FloatOps F] (xw : FVec F S96x8192 .f32) (w1 : FVec F S96x96 .f32) (b1 : FVec F S96x1 .f32)
    (wa wb : FVec F S192x96 .f32) (bg : FVec F S192x1 .f32) (w2 : FVec F S96x192 .f32) (b2 : FVec F S96x1 .f32) :
    FVec F S96x8192 .f32 :=
  fun i => block (slab xw ⟨(i 1).val / 512, by have := (i 1).isLt; have h : S96x8192.size 1 = 8192 := rfl; omega⟩)
    w1 b1 wa wb bg w2 b2 (ix2 (i 0) ⟨(i 1).val % 512, Nat.mod_lt _ (by omega)⟩)

/-- The result at column `512 t + n`: column `n` of block `t`. -/
theorem blocks_apply {F : FTy → Type} [FloatOps F] (xw : FVec F S96x8192 .f32) (w1 : FVec F S96x96 .f32) (b1 : FVec F S96x1 .f32)
    (wa wb : FVec F S192x96 .f32) (bg : FVec F S192x1 .f32) (w2 : FVec F S96x192 .f32) (b2 : FVec F S96x1 .f32)
    (t : Nat) (ht : t < 16) (y : S96x512.Idx) (h : 512 * t + (y 1).val < 8192) :
    blocks xw w1 b1 wa wb bg w2 b2 (ix2 (y 0) ⟨512 * t + (y 1).val, h⟩) = block (slab xw ⟨t, ht⟩) w1 b1 wa wb bg w2 b2 y := by
  have hn : (y 1).val < 512 := (y 1).isLt
  refine Eq.trans (congrArg₂ (fun (a : Fin 16) (b : Fin 512) => block (slab xw a) w1 b1 wa wb bg w2 b2 (ix2 (y 0) b))
    (show _ = (⟨t, ht⟩ : Fin 16) from Fin.ext ?_) (show _ = y 1 from Fin.ext ?_)) (congrArg _ (eq_ix2 y).symm)
  · show (512 * t + (y 1).val) / 512 = t
    omega
  · show (512 * t + (y 1).val) % 512 = (y 1).val
    omega

variable (m : (ℓ : Loc nD τ sig) → Buf (Elt Ideal) ℓ)

/-- Where the windows' blocks lie at each grid point. -/
theorem idx : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, t.val] :=
  (by decide +kernel : ∀ t : Fin grid0.N, _)

/-- The input's block at a grid point. -/
theorem iblk_0 (c : Dev nD) (t : Fin cfg0.N) :
    (iblk m c 0 t : FVec Ideal S96x512 .f32) = slab (F := Ideal) (V m c main_v29) ⟨t.val, t.isLt⟩ := by
  funext y
  unfold slab
  blk_ext [iblk, idx t]

/-- The first layer's weights at a grid point: all of them. -/
theorem iblk_1 (c : Dev nD) (t : Fin cfg0.N) : iblk m c 1 t = V m c main_v6 := by
  funext y
  blk_ext [iblk, idx t]

/-- The first layer's offsets at a grid point: all of them. -/
theorem iblk_2 (c : Dev nD) (t : Fin cfg0.N) : iblk m c 2 t = V m c main_v30 := by
  funext y
  blk_ext [iblk, idx t]

/-- The weights of a point's own part at a grid point: all of them. -/
theorem iblk_3 (c : Dev nD) (t : Fin cfg0.N) : iblk m c 3 t = V m c main_v18 := by
  funext y
  blk_ext [iblk, idx t]

/-- The weights of the far end's part at a grid point: all of them. -/
theorem iblk_4 (c : Dev nD) (t : Fin cfg0.N) : iblk m c 4 t = V m c main_v19 := by
  funext y
  blk_ext [iblk, idx t]

/-- The offsets of a point's own part at a grid point: all of them. -/
theorem iblk_5 (c : Dev nD) (t : Fin cfg0.N) : iblk m c 5 t = V m c main_v31 := by
  funext y
  blk_ext [iblk, idx t]

/-- The last layer's weights at a grid point: all of them. -/
theorem iblk_6 (c : Dev nD) (t : Fin cfg0.N) : iblk m c 6 t = V m c main_v24 := by
  funext y
  blk_ext [iblk, idx t]

/-- The last layer's offsets at a grid point: all of them. -/
theorem iblk_7 (c : Dev nD) (t : Fin cfg0.N) : iblk m c 7 t = V m c main_v32 := by
  funext y
  blk_ext [iblk, idx t]

/-- Where the result's block lies in its array. -/
theorem emb_8 (t : Fin cfg0.N) (y : S96x512.Idx) (h : 512 * t.val + (y 1).val < 8192) :
    ((cfg0.win 8).blk t).view.emb y = (ix2 (y 0) ⟨512 * t.val + (y 1).val, h⟩ : S96x8192.Idx) := by
  blk_ext [idx t]

/-- The result's array after the run. -/
theorem final (c : Dev nD) : (dats m 0 c).arrAt 8 (cfgs 0).N
    = blocks (F := Ideal) (V m c main_v29) (V m c main_v6) (V m c main_v30) (V m c main_v18) (V m c main_v19)
        (V m c main_v31) (V m c main_v24) (V m c main_v32) := by
  refine (dats m 0 c).arrAt_eq_of_covers 8 _ (by decide +kernel) fun t _ y => ?_
  blk_simp
  rw [after0_8, out_eq, iblk_1, iblk_2, iblk_3, iblk_4, iblk_5, iblk_6, iblk_7]
  rw [emb_8 t y (by have := (show S96x512.Idx from y) 1 |>.isLt; have h : S96x512.size 1 = 512 := rfl; have := t.isLt; have h' : cfg0.grid.N = 16 := rfl; omega)]
  exact (congrArg (fun x : FVec Ideal S96x512 .f32 => block x _ _ _ _ _ _ _ y) (iblk_0 m c t)).trans
    (blocks_apply _ _ _ _ _ _ _ _ t.val t.isLt y _).symm

end Cert.KernelIdeal.Body

end
-- ==== Proof.Entry.lean ====
/-
  The kernel's host lines: the layers' weights and offsets with the normalisations folded in, the input rearranged into
  windows, and the result rearranged back.  At the end, the kernel's whole result as a term of its arguments.
-/
module

public import proofs.«01_k».proof.Proof.Array

@[expose] public section

set_option maxRecDepth 16384

noncomputable section

namespace Cert.KernelIdeal.Body

open Idealize.ShloMosaic Idealize.ShloMosaic.TcCoe Idealize.SL.Sem Cert.KernelIdeal Cert.KernelIdeal.Gen

section terms
variable {F : FTy → Type} [FloatOps F]

/-- One over the normalisations' deviation. -/
def rate : FVec F S_ .f32 := Host.divf (constant S_ .f32 0x3F800000#32) (Host.sqrt (constant S_ .f32 0x3F800054#32))

/-- The factor a normalisation of 96 features multiplies by. -/
def factor96 (g : FVec F S96 .f32) : FVec F S96 .f32 := mulf g (broadcastInDim S96 ![] bcast_S_S96 rate)

/-- The factor a normalisation of 192 features multiplies by. -/
def factor192 (g : FVec F S192 .f32) : FVec F S192 .f32 := mulf g (broadcastInDim S192 ![] bcast_S_S192 rate)

/-- The first layer's weights with its normalisation folded in. -/
def weights1 (w : FVec F S96x96 .f32) (g : FVec F S96 .f32) : FVec F S96x96 .f32 :=
  mulf w (broadcastInDim S96x96 ![0, 1] bcast_S96x1_S96x96_0_1 (broadcastInDim S96x1 ![0] bcast_S96_S96x1_0 (factor96 g)))

/-- The graph layer's weights with its normalisation folded in. -/
def weightsG (w : FVec F S192x192 .f32) (g : FVec F S192 .f32) : FVec F S192x192 .f32 :=
  mulf w (broadcastInDim S192x192 ![0, 1] bcast_S192x1_S192x192_0_1 (broadcastInDim S192x1 ![0] bcast_S192_S192x1_0 (factor192 g)))

/-- The weights of an edge's far end. -/
def weightsB (w : FVec F S192x192 .f32) (g : FVec F S192 .f32) : FVec F S192x96 .f32 :=
  extractStridedSlice S192x96 ![0, 96] (weightsG w g) slices_S192x192_S192x96_0_96

/-- The weights of a point's own part of its edges. -/
def weightsA (w : FVec F S192x192 .f32) (g : FVec F S192 .f32) : FVec F S192x96 .f32 :=
  subf (extractStridedSlice S192x96 ![0, 0] (weightsG w g) slices_S192x192_S192x96_0_0) (weightsB w g)

/-- The last layer's weights with its normalisation folded in. -/
def weights2 (w : FVec F S96x192 .f32) (g : FVec F S96 .f32) : FVec F S96x192 .f32 :=
  mulf w (broadcastInDim S96x192 ![0, 1] bcast_S96x1_S96x192_0_1 (broadcastInDim S96x1 ![0] bcast_S96_S96x1_0 (factor96 g)))

/-- A layer's offsets with its normalisation folded in: 96 features. -/
def offsets96 (b g h : FVec F S96 .f32) : FVec F S96x1 .f32 :=
  broadcastInDim S96x1 ![0] bcast_S96_S96x1_0 (addf (mulf b (factor96 g)) h)

/-- A layer's offsets with its normalisation folded in: 192 features. -/
def offsets192 (b g h : FVec F S192 .f32) : FVec F S192x1 .f32 :=
  broadcastInDim S192x1 ![0] bcast_S192_S192x1_0 (addf (mulf b (factor192 g)) h)

/-- The input with each window's 64 points side by side. -/
def windowed (x : FVec F S8x96x32x32 .f32) : FVec F S96x8192 .f32 :=
  shapeCast S96x8192 (transpose S96x8x4x4x8x8 [1, 0, 2, 4, 3, 5]
    (shapeCast S8x96x4x8x4x8 x shapeCasts_S8x96x32x32_S8x96x4x8x4x8)
    transposes_S8x96x4x8x4x8_S96x8x4x4x8x8_1_0_2_4_3_5) shapeCasts_S96x8x4x4x8x8_S96x8192

/-- The windows put back in place. -/
def unwindowed (y : FVec F S96x8192 .f32) : FVec F S8x96x32x32 .f32 :=
  shapeCast S8x96x32x32 (transpose S8x96x4x8x4x8 [1, 0, 2, 4, 3, 5]
    (shapeCast S96x8x4x4x8x8 y shapeCasts_S96x8192_S96x8x4x4x8x8)
    transposes_S96x8x4x4x8x8_S8x96x4x8x4x8_1_0_2_4_3_5) shapeCasts_S8x96x4x8x4x8_S8x96x32x32

/-- The kernel's result. -/
def result (x : FVec F S8x96x32x32 .f32) (w1 : FVec F S96x96 .f32) (b1 g1 h1 : FVec F S96 .f32)
    (wg : FVec F S192x192 .f32) (bg gg hg : FVec F S192 .f32) (w2 : FVec F S96x192 .f32) (b2 g2 h2 : FVec F S96 .f32) :
    FVec F S8x96x32x32 .f32 :=
  unwindowed (blocks (windowed x) (weights1 w1 g1) (offsets96 b1 g1 h1) (weightsA wg gg) (weightsB wg gg)
    (offsets192 bg gg hg) (weights2 w2 g2) (offsets96 b2 g2 h2))

end terms

variable (m : (ℓ : Loc nD τ sig) → Buf (Elt Ideal) ℓ) (c : Dev nD)

/-- The windowed input as the region finds it. -/
theorem V_v29 : V m c main_v29 = windowed (F := Ideal) (m ((c : Thread nD τ).loc main_arg0)) := by
  show StableHlo.after hostOps0 (fun b => m (c, b)) (Proc.devRef .tc main_v29) = _
  unfold hostOps0
  entry_read
  rfl

/-- The first layer's weights as the region finds them. -/
theorem V_v6 : V m c main_v6 = weights1 (F := Ideal) (m ((c : Thread nD τ).loc main_arg1)) (m ((c : Thread nD τ).loc main_arg3)) := by
  show StableHlo.after hostOps0 (fun b => m (c, b)) (Proc.devRef .tc main_v6) = _
  unfold hostOps0
  entry_read
  rfl

/-- The first layer's offsets as the region finds them. -/
theorem V_v30 : V m c main_v30 = offsets96 (F := Ideal) (m ((c : Thread nD τ).loc main_arg2)) (m ((c : Thread nD τ).loc main_arg3)) (m ((c : Thread nD τ).loc main_arg4)) := by
  show StableHlo.after hostOps0 (fun b => m (c, b)) (Proc.devRef .tc main_v30) = _
  unfold hostOps0
  entry_read
  rfl

/-- The weights of a point's own part as the region finds them. -/
theorem V_v18 : V m c main_v18 = weightsA (F := Ideal) (m ((c : Thread nD τ).loc main_arg5)) (m ((c : Thread nD τ).loc main_arg7)) := by
  show StableHlo.after hostOps0 (fun b => m (c, b)) (Proc.devRef .tc main_v18) = _
  unfold hostOps0
  entry_read
  rfl

/-- The weights of the far end as the region finds them. -/
theorem V_v19 : V m c main_v19 = weightsB (F := Ideal) (m ((c : Thread nD τ).loc main_arg5)) (m ((c : Thread nD τ).loc main_arg7)) := by
  show StableHlo.after hostOps0 (fun b => m (c, b)) (Proc.devRef .tc main_v19) = _
  unfold hostOps0
  entry_read
  rfl

/-- The graph layer's offsets as the region finds them. -/
theorem V_v31 : V m c main_v31 = offsets192 (F := Ideal) (m ((c : Thread nD τ).loc main_arg6)) (m ((c : Thread nD τ).loc main_arg7)) (m ((c : Thread nD τ).loc main_arg8)) := by
  show StableHlo.after hostOps0 (fun b => m (c, b)) (Proc.devRef .tc main_v31) = _
  unfold hostOps0
  entry_read
  rfl

/-- The last layer's weights as the region finds them. -/
theorem V_v24 : V m c main_v24 = weights2 (F := Ideal) (m ((c : Thread nD τ).loc main_arg9)) (m ((c : Thread nD τ).loc main_arg11)) := by
  show StableHlo.after hostOps0 (fun b => m (c, b)) (Proc.devRef .tc main_v24) = _
  unfold hostOps0
  entry_read
  rfl

/-- The last layer's offsets as the region finds them. -/
theorem V_v32 : V m c main_v32 = offsets96 (F := Ideal) (m ((c : Thread nD τ).loc main_arg10)) (m ((c : Thread nD τ).loc main_arg11)) (m ((c : Thread nD τ).loc main_arg12)) := by
  show StableHlo.after hostOps0 (fun b => m (c, b)) (Proc.devRef .tc main_v32) = _
  unfold hostOps0
  entry_read
  rfl

/-- The kernel's result array after the run, as a term of the arguments. -/
theorem result_eq : Pipeline.afterTail₀ cfgs (dats m) 0 (V0 m) [hostOps1] c main_v36 = result (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h : Pipeline.withArrays (cfgs 0).spec c (V0 m c) (fun w => (dats m 0 c).arrAt w (cfgs 0).N) (Proc.devRef .tc main_v33)
      = (dats m 0 c).arrAt 8 (cfgs 0).N :=
    Pipeline.withArrays_arr spec0 (by decide) c _ _ 8
  rw [final, V_v29, V_v6, V_v30, V_v18, V_v19, V_v31, V_v24, V_v32] at h
  unfold Pipeline.afterTail₀ result
  rw [← h]
  show StableHlo.after hostOps1 _ (Proc.devRef .tc main_v36) = _
  unfold hostOps1
  after_results
  rfl

end Cert.KernelIdeal.Body

end
-- ==== Proof.Layers.lean ====
/-
  The layers around the graph over the reals: the first layer's features, the windows of an image, the part of an
  edge that its point gives and the part that its neighbour gives; and the same with each normalisation folded into
  the weights before it.
-/
module

public import proofs.«01_k».proof.Proof.Spec

@[expose] public section

noncomputable section

namespace Cert.Graph

open Idealize.ShloMosaic

/-- The points of one window of an image: window `w` of 128, point `n` of 64. -/
def win (X : Fin 8 → Fin 96 → Fin 32 → Fin 32 → ℝ) (w : Fin 128) (c : Fin 96) (n : Fin 64) : ℝ :=
  X ⟨w.val / 16, by omega⟩ c ⟨w.val / 4 % 4 * 8 + n.val / 8, by omega⟩ ⟨w.val % 4 * 8 + n.val % 8, by omega⟩

/-- The window that a pixel lies in. -/
def window (b : Fin 8) (i j : Fin 32) : Fin 128 := ⟨b.val * 16 + i.val / 8 * 4 + j.val / 8, by omega⟩

/-- The pixel's position in its window. -/
def place (i j : Fin 32) : Fin 64 := ⟨i.val % 8 * 8 + j.val % 8, by omega⟩

/-- A pixel, found at its place in its window. -/
theorem win_window (X : Fin 8 → Fin 96 → Fin 32 → Fin 32 → ℝ) (b : Fin 8) (c : Fin 96) (i j : Fin 32) :
    win X (window b i j) c (place i j) = X b c i j := by
  have hb : (⟨(window b i j).val / 16, by omega⟩ : Fin 8) = b := Fin.ext (by simp only [window]; omega)
  have hi : (⟨(window b i j).val / 4 % 4 * 8 + (place i j).val / 8, by omega⟩ : Fin 32) = i :=
    Fin.ext (by simp only [window, place]; omega)
  have hj : (⟨(window b i j).val % 4 * 8 + (place i j).val % 8, by omega⟩ : Fin 32) = j :=
    Fin.ext (by simp only [window, place]; omega)
  unfold win
  rw [hb, hi, hj]

/-- One feature of the first layer at a point: product, offset, and normalisation. -/
def feature (W : Fin 96 → Fin 96 → ℝ) (B G H : Fin 96 → ℝ) (X : Fin 96 → ℝ) (c : Fin 96) : ℝ :=
  (∑ k, W c k * X k + B c) / dev * G c + H c

/-- The first layer's feature with the normalisation folded into its weights and offset. -/
theorem feature_eq (W : Fin 96 → Fin 96 → ℝ) (B G H : Fin 96 → ℝ) (X : Fin 96 → ℝ) (c : Fin 96) :
    feature W B G H X c = ∑ k, W c k * (G c * dev⁻¹) * X k + (B c * (G c * dev⁻¹) + H c) := by
  have h : ∑ k, W c k * (G c * dev⁻¹) * X k = (∑ k, W c k * X k) * (G c * dev⁻¹) := by
    rw [Finset.sum_mul]
    exact Finset.sum_congr rfl fun k _ => by ring
  rw [h]
  unfold feature
  rw [div_eq_mul_inv]
  ring

section edges
variable (W : Fin 192 → Fin 192 → ℝ) (B G H : Fin 192 → ℝ) (Y : Fin 96 → Fin 64 → ℝ)

/-- The lower half of a row of weights, applied to a point's own features. -/
def lower (k : Fin 96) : Fin 192 := ⟨k.val, by omega⟩

/-- The upper half, applied to the differences. -/
def upper (k : Fin 96) : Fin 192 := ⟨96 + k.val, by omega⟩

/-- What a point itself gives to its edges. -/
def own (c : Fin 192) (n : Fin 64) : ℝ :=
  ∑ k, (W c (lower k) * (G c * dev⁻¹) - W c (upper k) * (G c * dev⁻¹)) * Y k n + (B c * (G c * dev⁻¹) + H c)

/-- What a neighbour gives to an edge. -/
def far (c : Fin 192) (n : Fin 64) : ℝ := ∑ k, W c (upper k) * (G c * dev⁻¹) * Y k n

/-- A sum over both halves of a row. -/
theorem sum_halves {M : Type} [AddCommMonoid M] (f : Fin 192 → M) : ∑ k, f k = ∑ k, f (lower k) + ∑ k, f (upper k) :=
  Fin.sum_univ_add (a := 96) (b := 96) f

/-- The edge's layer on a point's features and the neighbour's difference from them is what the point gives plus what the
    neighbour gives. -/
theorem own_add_far (c : Fin 192) (i j : Fin 64) :
    (∑ k, W c (lower k) * Y k i + ∑ k, W c (upper k) * (Y k j - Y k i) + B c) / dev * G c + H c
      = own W B G H Y c i + far W G Y c j := by
  have h1 : ∑ k, (W c (lower k) * (G c * dev⁻¹) - W c (upper k) * (G c * dev⁻¹)) * Y k i
      = (∑ k, W c (lower k) * Y k i) * (G c * dev⁻¹) - (∑ k, W c (upper k) * Y k i) * (G c * dev⁻¹) := by
    rw [Finset.sum_mul, Finset.sum_mul, ← Finset.sum_sub_distrib]
    exact Finset.sum_congr rfl fun k _ => by ring
  have h2 : ∑ k, W c (upper k) * (G c * dev⁻¹) * Y k j = (∑ k, W c (upper k) * Y k j) * (G c * dev⁻¹) := by
    rw [Finset.sum_mul]
    exact Finset.sum_congr rfl fun k _ => by ring
  have h3 : ∑ k, W c (upper k) * (Y k j - Y k i) = ∑ k, W c (upper k) * Y k j - ∑ k, W c (upper k) * Y k i := by
    rw [← Finset.sum_sub_distrib]
    exact Finset.sum_congr rfl fun k _ => by ring
  unfold own far
  rw [h1, h2, h3, div_eq_mul_inv]
  ring

end edges

/-- The graph layer's features at the points of a window. -/
def message (W : Fin 192 → Fin 192 → ℝ) (B G H : Fin 192 → ℝ) (Y : Fin 96 → Fin 64 → ℝ) (c : Fin 192) (n : Fin 64) : ℝ :=
  edge Y (own W B G H Y c) (far W G Y c) n

/-- A real times a real factor plus anything, divided by the deviation: the normalisation distributes over the sum,
    the offset being any extended real. -/
theorem norm_add (u s : ℝ) (b h : EReal) : Ideal.div ((u : ℝ) + b) ((dev : ℝ) : EReal) * ((s : ℝ) : EReal) + h
    = ((u * (s * dev⁻¹) : ℝ) : EReal) + (b * ((s * dev⁻¹ : ℝ) : EReal) + h) := by
  rw [div_of_pos _ dev_pos, mul_assoc, ← EReal.coe_mul, mul_comm dev⁻¹ s, ← add_assoc]
  congr 1
  generalize s * dev⁻¹ = q
  induction b using EReal.rec with
  | coe r => norm_cast; ring
  | top =>
    rw [EReal.coe_add_top]
    rcases lt_trichotomy q 0 with hq | hq | hq
    · rw [EReal.top_mul_coe_of_neg hq, EReal.add_bot]
    · subst hq; simp
    · rw [EReal.top_mul_coe_of_pos hq, EReal.coe_add_top]
  | bot =>
    rw [EReal.add_bot]
    rcases lt_trichotomy q 0 with hq | hq | hq
    · rw [EReal.bot_mul_coe_of_neg hq, EReal.coe_add_top]
    · subst hq; simp
    · rw [EReal.bot_mul_coe_of_pos hq, EReal.add_bot]

end Cert.Graph

end
-- ==== Proof.KernelValue.lean ====
/-
  The kernel's result over the reals: the folded weights and offsets, the windowed input, and the result at a pixel.
-/
module

public import Idealize.ShloMosaic.Lib.Pointwise
public import proofs.«01_k».proof.Proof.BlockValue
public import proofs.«01_k».proof.Proof.Entry
public import proofs.«01_k».proof.Proof.Layers

@[expose] public section

set_option maxRecDepth 16384

noncomputable section

namespace Cert.KernelIdeal.Body

open Idealize.ShloMosaic Idealize.ShloMosaic.TcCoe Idealize.SL.Sem Cert.KernelIdeal Cert.KernelIdeal.Gen Cert.Graph

/-- The rate is the deviation's inverse. -/
theorem rate_at : rate (F := Ideal) ix0 = ((dev⁻¹ : ℝ) : EReal) := by
  have h1 : Ideal.ofBits .f32 0x3F800000#32 = ((1 : ℝ) : EReal) := by
    simp [Ideal.ofBits, Ideal.ieee, -EReal.coe_mul]; norm_num
  show Ideal.div (Ideal.ofBits .f32 0x3F800000#32) (Ideal.sqrt (Ideal.ofBits .f32 0x3F800054#32)) = _
  rw [sqrt_variance, h1, div_coe dev_pos.ne', one_div]

/-- A normalisation's factor: 96 features. -/
theorem factor96_at (g : FVec Ideal S96 .f32) (c : Fin 96) : factor96 g (ix1 c) = g (ix1 c) * ((dev⁻¹ : ℝ) : EReal) := by
  rw [← rate_at]
  pointwise [factor96]

/-- A normalisation's factor: 192 features. -/
theorem factor192_at (g : FVec Ideal S192 .f32) (c : Fin 192) : factor192 g (ix1 c) = g (ix1 c) * ((dev⁻¹ : ℝ) : EReal) := by
  rw [← rate_at]
  pointwise [factor192]

/-- The first layer's folded weights. -/
theorem weights1_at (w : FVec Ideal S96x96 .f32) (g : FVec Ideal S96 .f32) (W : Fin 96 → Fin 96 → ℝ) (G : Fin 96 → ℝ)
    (hw : ∀ c k, w (ix2 c k) = ((W c k : ℝ) : EReal)) (hg : ∀ c, g (ix1 c) = ((G c : ℝ) : EReal)) (c k : Fin 96) :
    weights1 w g (ix2 c k) = ((W c k * (G c * dev⁻¹) : ℝ) : EReal) := by
  pointwise [weights1]
  rw [factor96_at, hw, hg, ← EReal.coe_mul, ← EReal.coe_mul]

/-- The last layer's folded weights. -/
theorem weights2_at (w : FVec Ideal S96x192 .f32) (g : FVec Ideal S96 .f32) (W : Fin 96 → Fin 192 → ℝ) (G : Fin 96 → ℝ)
    (hw : ∀ c k, w (ix2 c k) = ((W c k : ℝ) : EReal)) (hg : ∀ c, g (ix1 c) = ((G c : ℝ) : EReal)) (c : Fin 96) (k : Fin 192) :
    weights2 w g (ix2 c k) = ((W c k * (G c * dev⁻¹) : ℝ) : EReal) := by
  pointwise [weights2]
  rw [factor96_at, hw, hg, ← EReal.coe_mul, ← EReal.coe_mul]

/-- The graph layer's folded weights. -/
theorem weightsG_at (w : FVec Ideal S192x192 .f32) (g : FVec Ideal S192 .f32) (W : Fin 192 → Fin 192 → ℝ) (G : Fin 192 → ℝ)
    (hw : ∀ c k, w (ix2 c k) = ((W c k : ℝ) : EReal)) (hg : ∀ c, g (ix1 c) = ((G c : ℝ) : EReal)) (c k : Fin 192) :
    weightsG w g (ix2 c k) = ((W c k * (G c * dev⁻¹) : ℝ) : EReal) := by
  pointwise [weightsG]
  rw [factor192_at, hw, hg, ← EReal.coe_mul, ← EReal.coe_mul]

/-- The far end's folded weights. -/
theorem weightsB_at (w : FVec Ideal S192x192 .f32) (g : FVec Ideal S192 .f32) (W : Fin 192 → Fin 192 → ℝ) (G : Fin 192 → ℝ)
    (hw : ∀ c k, w (ix2 c k) = ((W c k : ℝ) : EReal)) (hg : ∀ c, g (ix1 c) = ((G c : ℝ) : EReal)) (c : Fin 192) (k : Fin 96) :
    weightsB w g (ix2 c k) = ((W c (upper k) * (G c * dev⁻¹) : ℝ) : EReal) := by
  rw [← weightsG_at w g W G hw hg]
  pointwise [weightsB]
  rfl

/-- The near end's folded weights: the lower half less the upper. -/
theorem weightsA_at (w : FVec Ideal S192x192 .f32) (g : FVec Ideal S192 .f32) (W : Fin 192 → Fin 192 → ℝ) (G : Fin 192 → ℝ)
    (hw : ∀ c k, w (ix2 c k) = ((W c k : ℝ) : EReal)) (hg : ∀ c, g (ix1 c) = ((G c : ℝ) : EReal)) (c : Fin 192) (k : Fin 96) :
    weightsA w g (ix2 c k) = ((W c (lower k) * (G c * dev⁻¹) - W c (upper k) * (G c * dev⁻¹) : ℝ) : EReal) := by
  rw [EReal.coe_sub, ← weightsG_at w g W G hw hg c (lower k), ← weightsB_at w g W G hw hg]
  pointwise [weightsA]
  rfl

/-- Folded offsets, whatever the layer's offset and shift: 96 features. -/
theorem offsets96_at (b g h : FVec Ideal S96 .f32) (G : Fin 96 → ℝ) (hg : ∀ c, g (ix1 c) = ((G c : ℝ) : EReal)) (c : Fin 96) :
    offsets96 b g h (ix2 c 0) = b (ix1 c) * ((G c * dev⁻¹ : ℝ) : EReal) + h (ix1 c) := by
  rw [EReal.coe_mul, ← hg, ← factor96_at]
  pointwise [offsets96]

/-- Folded offsets: 192 features. -/
theorem offsets192_at (b g h : FVec Ideal S192 .f32) (G : Fin 192 → ℝ) (hg : ∀ c, g (ix1 c) = ((G c : ℝ) : EReal)) (c : Fin 192) :
    offsets192 b g h (ix2 c 0) = b (ix1 c) * ((G c * dev⁻¹ : ℝ) : EReal) + h (ix1 c) := by
  rw [EReal.coe_mul, ← hg, ← factor192_at]
  pointwise [offsets192]

/-- The windowed input: column `64 v + n` holds point `n` of window `v`. -/
theorem windowed_at (x : FVec Ideal S8x96x32x32 .f32) (X : Fin 8 → Fin 96 → Fin 32 → Fin 32 → ℝ)
    (hx : ∀ a c i j, x (ix4 a c i j) = ((X a c i j : ℝ) : EReal)) (v : Fin 128) (c : Fin 96) (n : Fin 64) (l : Fin 8192)
    (hl : l.val = 64 * v.val + n.val) : windowed x (ix2 c l) = ((win X v c n : ℝ) : EReal) := by
  pointwise [windowed]
  rw [hx]
  unfold win
  congr 2 <;> refine Fin.ext ?_ <;> dsimp only <;> omega

/-- The kernel's result at a pixel. -/
theorem result_at (x : FVec Ideal S8x96x32x32 .f32) (w1 : FVec Ideal S96x96 .f32) (b1 g1 h1 : FVec Ideal S96 .f32)
    (wg : FVec Ideal S192x192 .f32) (bg gg hg : FVec Ideal S192 .f32) (w2 : FVec Ideal S96x192 .f32) (b2 g2 h2 : FVec Ideal S96 .f32)
    (X : Fin 8 → Fin 96 → Fin 32 → Fin 32 → ℝ) (W1 : Fin 96 → Fin 96 → ℝ) (B1 G1 H1 : Fin 96 → ℝ)
    (Wg : Fin 192 → Fin 192 → ℝ) (Bg Gg Hg : Fin 192 → ℝ) (W2 : Fin 96 → Fin 192 → ℝ) (G2 : Fin 96 → ℝ)
    (hx : ∀ a c i j, x (ix4 a c i j) = ((X a c i j : ℝ) : EReal)) (hw1 : ∀ c k, w1 (ix2 c k) = ((W1 c k : ℝ) : EReal))
    (hb1 : ∀ c, b1 (ix1 c) = ((B1 c : ℝ) : EReal)) (hg1 : ∀ c, g1 (ix1 c) = ((G1 c : ℝ) : EReal))
    (hh1 : ∀ c, h1 (ix1 c) = ((H1 c : ℝ) : EReal)) (hwg : ∀ c k, wg (ix2 c k) = ((Wg c k : ℝ) : EReal))
    (hbg : ∀ c, bg (ix1 c) = ((Bg c : ℝ) : EReal)) (hgg : ∀ c, gg (ix1 c) = ((Gg c : ℝ) : EReal))
    (hhg : ∀ c, hg (ix1 c) = ((Hg c : ℝ) : EReal)) (hw2 : ∀ c k, w2 (ix2 c k) = ((W2 c k : ℝ) : EReal))
    (hg2 : ∀ c, g2 (ix1 c) = ((G2 c : ℝ) : EReal)) (a : Fin 8) (o : Fin 96) (i j : Fin 32) :
    result x w1 b1 g1 h1 wg bg gg hg w2 b2 g2 h2 (ix4 a o i j)
      = (((∑ c, W2 o c * message Wg Bg Gg Hg
            (fun c n => feature W1 B1 G1 H1 (fun k => win X (Graph.window a i j) k n) c) c (place i j)) * (G2 o * dev⁻¹) : ℝ) : EReal)
        + (b2 (ix1 o) * ((G2 o * dev⁻¹ : ℝ) : EReal) + h2 (ix1 o)) + ((X a o i j : ℝ) : EReal) := by
  obtain ⟨t, g, ht, hg8, hv⟩ : ∃ t g : Nat, t < 16 ∧ g < 8 ∧ (Graph.window a i j).val = 8 * t + g :=
    ⟨(Graph.window a i j).val / 8, (Graph.window a i j).val % 8, by omega, by omega, by omega⟩
  have hu : ∀ y : FVec Ideal S96x8192 .f32, unwindowed y (ix4 a o i j)
      = y (ix2 o ⟨512 * t + (col ⟨g, hg8⟩ (place i j)).val, by have := (col ⟨g, hg8⟩ (place i j)).isLt; omega⟩) := fun y => by
    pointwise [unwindowed]
    refine congrArg (fun l => y (ix2 o l)) (Fin.ext ?_)
    simp only [Graph.window] at hv
    simp only [col, place]
    omega
  unfold result
  rw [hu]
  refine (blocks_apply _ _ _ _ _ _ _ _ t ht (ix2 o (col ⟨g, hg8⟩ (place i j))) _).trans ?_
  rw [block_real _ _ _ _ _ _ _ _ (win X (Graph.window a i j)) (fun c k => W1 c k * (G1 c * dev⁻¹)) (fun c => B1 c * (G1 c * dev⁻¹) + H1 c)
    (fun c k => Wg c (lower k) * (Gg c * dev⁻¹) - Wg c (upper k) * (Gg c * dev⁻¹)) (fun c k => Wg c (upper k) * (Gg c * dev⁻¹))
    (fun c => Bg c * (Gg c * dev⁻¹) + Hg c) (fun c k => W2 c k * (G2 c * dev⁻¹)) ⟨g, hg8⟩
    (fun k n => windowed_at x X hx (Graph.window a i j) k n _ (by simp only [col]; show 512 * t + (64 * g + n.val) = _; omega))
    (weights1_at w1 g1 W1 G1 hw1 hg1)
    (fun c => by rw [offsets96_at b1 g1 h1 G1 hg1, hb1, hh1, ← EReal.coe_mul, ← EReal.coe_add])
    (weightsA_at wg gg Wg Gg hwg hgg) (weightsB_at wg gg Wg Gg hwg hgg)
    (fun c => by rw [offsets192_at bg gg hg Gg hgg, hbg, hhg, ← EReal.coe_mul, ← EReal.coe_add])
    (weights2_at w2 g2 W2 G2 hw2 hg2) (fun c n => feature W1 B1 G1 H1 (fun k => win X (Graph.window a i j) k n) c)
    (fun c n => feature_eq W1 B1 G1 H1 _ c) o (place i j)]
  rw [offsets96_at b2 g2 h2 G2 hg2, win_window]
  have hs : ∀ f : Fin 192 → ℝ, ∑ c, W2 o c * (G2 o * dev⁻¹) * f c = (∑ c, W2 o c * f c) * (G2 o * dev⁻¹) := fun f => by
    rw [Finset.sum_mul]
    exact Finset.sum_congr rfl fun c _ => by ring
  rw [hs]
  rfl

end Cert.KernelIdeal.Body

end
-- ==== Proof.Ref.lean ====
/-
  The reference's result, cut into its steps: the first layer, the windows' points, the distances, the nine nearest, the
  edges, the maximum over them, and the last layer.
-/
module

public import proofs.«01_k».proof.Proof.Gen.ReferenceIdeal.Run

@[expose] public section

set_option maxRecDepth 16384

noncomputable section

namespace Cert.ReferenceIdeal.Steps

open Cert.ReferenceIdeal Cert.ReferenceIdeal.Gen Idealize.ShloMosaic Idealize.ShloMosaic.TcCoe Idealize.SL.Sem

variable {F : FTy → Type} [FloatOps F]

/-- The normalisations' deviation. -/
def deviation : FVec F S_ .f32 := id (Host.sqrt (constant S_ .f32 0x3F800054#32))

/-- One value per channel, over an image. -/
def chan (b : FVec F S96 .f32) : FVec F S8x96x32x32 .f32 :=
  broadcastInDim S8x96x32x32 ![0, 1, 2, 3] bcast_S1x96x1x1_S8x96x32x32_0_1_2_3
    (broadcastInDim S1x96x1x1 ![1] bcast_S96_S1x96x1x1_1 b)

/-- One value per channel, over the edges. -/
def chanE (b : FVec F S192 .f32) : FVec F S128x192x64x9 .f32 :=
  broadcastInDim S128x192x64x9 ![0, 1, 2, 3] bcast_S1x192x1x1_S128x192x64x9_0_1_2_3
    (broadcastInDim S1x192x1x1 ![1] bcast_S192_S1x192x1x1_1 b)

/-- A layer's offset and normalisation over an image. -/
def normed (y : FVec F S8x96x32x32 .f32) (b g h : FVec F S96 .f32) : FVec F S8x96x32x32 .f32 :=
  addf (mulf (Host.divf (addf y (chan b)) (broadcastInDim S8x96x32x32 ![] bcast_S_S8x96x32x32 deviation)) (chan g)) (chan h)

/-- The first layer. -/
def first (x : FVec F S8x96x32x32 .f32) (w : FVec F S96x96 .f32) (b g h : FVec F S96 .f32) : FVec F S8x96x32x32 .f32 :=
  normed (transpose S8x96x32x32 [1, 0, 2, 3]
    (Host.dotGeneral dot_S96x96_S8x96x32x32_S96x8x32x32_1_1_0_023_n_n none w x)
    transposes_S96x8x32x32_S8x96x32x32_1_0_2_3) b g h

/-- An image cut into windows of 64 points. -/
def points (y : FVec F S8x96x32x32 .f32) : FVec F S128x96x64 .f32 :=
  shapeCast S128x96x64 (transpose S128x96x8x8 [0, 3, 1, 2]
    (shapeCast S128x8x8x96 (transpose S8x4x4x8x8x96 [0, 1, 3, 2, 4, 5]
      (shapeCast S8x4x8x4x8x96 (transpose S8x32x32x96 [0, 2, 3, 1] y transposes_S8x96x32x32_S8x32x32x96_0_2_3_1)
        shapeCasts_S8x32x32x96_S8x4x8x4x8x96) transposes_S8x4x8x4x8x96_S8x4x4x8x8x96_0_1_3_2_4_5)
      shapeCasts_S8x4x4x8x8x96_S128x8x8x96) transposes_S128x8x8x96_S128x96x8x8_0_3_1_2) shapeCasts_S128x96x8x8_S128x96x64

/-- Each point's features scaled to length one (at least the smallest length allowed). -/
def unit (p : FVec F S128x96x64 .f32) : FVec F S128x64x96 .f32 :=
  transpose S128x64x96 [0, 2, 1] (Host.divf p (broadcastInDim S128x96x64 ![0, 1, 2] bcast_S128x1x64_S128x96x64_0_1_2
    (maximumf (broadcastInDim S128x1x64 ![] bcast_S_S128x1x64 (id (constant S_ .f32 0x2B8CBCCC#32)))
      (Host.sqrt (broadcastInDim S128x1x64 ![0, 2] bcast_S128x64_S128x1x64_0_2
        (Host.reduceAdd (mulf p p) (constant S_ .f32 0x00000000#32) reducesTo_S128x96x64_S128x64_d1 h_S_))))))
    transposes_S128x96x64_S128x64x96_0_2_1

/-- Each point's squared length. -/
def lengths (u : FVec F S128x64x96 .f32) : FVec F S128x64x1 .f32 :=
  broadcastInDim S128x64x1 ![0, 1] bcast_S128x64_S128x64x1_0_1
    (Host.reduceAdd (mulf u u) (constant S_ .f32 0x00000000#32) reducesTo_S128x64x96_S128x64_d2 h_S_)

/-- The squared distances within each window. -/
def dists (u : FVec F S128x64x96 .f32) : FVec F S128x64x64 .f32 :=
  addf (addf (broadcastInDim S128x64x64 ![0, 1, 2] bcast_S128x64x1_S128x64x64_0_1_2 (lengths u))
      (mulf (broadcastInDim S128x64x64 ![] bcast_S_S128x64x64 (constant S_ .f32 0xC0000000#32))
        (Host.dotGeneral dot_S128x64x96_S128x64x96_S128x64x64_2_2_1_1_0_0 none u u)))
    (broadcastInDim S128x64x64 ![0, 1, 2] bcast_S128x1x64_S128x64x64_0_1_2
      (transpose S128x1x64 [0, 2, 1] (lengths u) transposes_S128x64x1_S128x1x64_0_2_1))

/-- The nine nearest points of each point. -/
def near (d : FVec F S128x64x64 .f32) : IVec S128x64x9 32 :=
  (Host.topK S128x64x9 2 (FloatOps.cmpfTotal .gt) (Host.negf d) sliceFits_S128x64x64_S128x64x9).2

/-- A point's number, counted from the end if negative. -/
def wrapped (k : IVec S128x64x9 32) : IVec S128x64x9 32 :=
  select (cmpi .slt k (broadcastInDim S128x64x9 ![] bcast_S_S128x64x9 (constantI S_ 32 0#32)))
    (addi k (broadcastInDim S128x64x9 ![] bcast_S_S128x64x9 (constantI S_ 32 64#32))) k

/-- The features of the points numbered. -/
def picked (p : FVec F S128x96x64 .f32) (k : IVec S128x64x9 32) : FVec F S128x96x64x9 .f32 :=
  Host.gather gather_S128x96x64_S128x64x9x1_S128x96x64x9_1_2_0_0_2_3_1961 p
    (broadcastInDim S128x64x9x1 ![0, 1, 2] bcast_S128x64x9_S128x64x9x1_0_1_2 k)

/-- Each point's own features, once per neighbour. -/
def repeated (p : FVec F S128x96x64 .f32) : FVec F S128x96x64x9 .f32 :=
  broadcastInDim S128x96x64x9 ![0, 1, 2, 3] bcast_S128x96x64x1_S128x96x64x9_0_1_2_3
    (broadcastInDim S128x96x64x1 ![0, 1, 2] bcast_S128x96x64_S128x96x64x1_0_1_2 p)

/-- What each edge's layer reads: the point's features, then the neighbour's less the point's. -/
def pairs (q r : FVec F S128x96x64x9 .f32) : FVec F S128x192x64x9 .f32 :=
  concatenate S128x192x64x9 1 [⟨S128x96x64x9, r⟩, ⟨S128x96x64x9, subf q r⟩]
    concatenates_S128x96x64x9_S128x96x64x9_S128x192x64x9_d1

/-- The edges' layer, its normalisation, and its cut-off below zero. -/
def layerE (e : FVec F S128x192x64x9 .f32) (w : FVec F S192x192 .f32) (b g h : FVec F S192 .f32) : FVec F S128x192x64x9 .f32 :=
  maximumf (addf (mulf (Host.divf (addf (transpose S128x192x64x9 [1, 0, 2, 3]
      (Host.dotGeneral dot_S192x192_S128x192x64x9_S192x128x64x9_1_1_0_023_n_n none w e)
      transposes_S192x128x64x9_S128x192x64x9_1_0_2_3) (chanE b))
      (broadcastInDim S128x192x64x9 ![] bcast_S_S128x192x64x9 deviation)) (chanE g)) (chanE h))
    (broadcastInDim S128x192x64x9 ![] bcast_S_S128x192x64x9 (constant S_ .f32 0x00000000#32))

/-- The largest over the neighbours. -/
def largest (e : FVec F S128x192x64x9 .f32) : FVec F S128x192x64 .f32 :=
  Host.reduce FloatOps.maximumf e (constant S_ .f32 0xFF800000#32) reducesTo_S128x192x64x9_S128x192x64_d3 h_S_

/-- The windows put back into an image. -/
def image (e : FVec F S128x192x64 .f32) : FVec F S8x192x32x32 .f32 :=
  transpose S8x192x32x32 [0, 3, 1, 2] (shapeCast S8x32x32x192 (transpose S8x4x8x4x8x192 [0, 1, 3, 2, 4, 5]
    (shapeCast S8x4x4x8x8x192 (transpose S128x8x8x192 [0, 2, 3, 1]
      (shapeCast S128x192x8x8 e shapeCasts_S128x192x64_S128x192x8x8) transposes_S128x192x8x8_S128x8x8x192_0_2_3_1)
      shapeCasts_S128x8x8x192_S8x4x4x8x8x192) transposes_S8x4x4x8x8x192_S8x4x8x4x8x192_0_1_3_2_4_5)
    shapeCasts_S8x4x8x4x8x192_S8x32x32x192) transposes_S8x32x32x192_S8x192x32x32_0_3_1_2

/-- The graph layer on the windows' points. -/
def graph (p : FVec F S128x96x64 .f32) (w : FVec F S192x192 .f32) (b g h : FVec F S192 .f32) : FVec F S128x192x64 .f32 :=
  largest (layerE (pairs (picked p (wrapped (near (dists (unit p))))) (repeated p)) w b g h)

/-- The last layer and the residual. -/
def last (x : FVec F S8x96x32x32 .f32) (e : FVec F S8x192x32x32 .f32) (w : FVec F S96x192 .f32) (b g h : FVec F S96 .f32) :
    FVec F S8x96x32x32 .f32 :=
  addf (normed (transpose S8x96x32x32 [1, 0, 2, 3]
    (Host.dotGeneral dot_S96x192_S8x192x32x32_S96x8x32x32_1_1_0_023_n_n none w e)
    transposes_S96x8x32x32_S8x96x32x32_1_0_2_3) b g h) x

/-- The reference's result. -/
def result (x : FVec F S8x96x32x32 .f32) (w1 : FVec F S96x96 .f32) (b1 g1 h1 : FVec F S96 .f32)
    (wg : FVec F S192x192 .f32) (bg gg hg : FVec F S192 .f32) (w2 : FVec F S96x192 .f32) (b2 g2 h2 : FVec F S96 .f32) :
    FVec F S8x96x32x32 .f32 :=
  last x (image (graph (points (first x w1 b1 g1 h1)) wg bg gg hg)) w2 b2 g2 h2

set_option maxHeartbeats 4000000 in
/-- The reference's run ends with `result` of its arguments. -/
theorem result_eq (m : (ℓ : Loc nD τ sig) → Buf (Elt F) ℓ) (c : Dev nD) : Value.res_main_v87 m c = result (F := F)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Value.res_main_v87
  rfl

end Cert.ReferenceIdeal.Steps

end
-- ==== Proof.Nearest.lean ====
/-
  The reference's choice of the nine nearest points, and the points it picks by their numbers.
-/
module

public import proofs.«01_k».proof.Proof.Ref
public import proofs.«01_k».proof.Proof.Order
public import Idealize.ShloMosaic.Lib.Pointwise

@[expose] public section

set_option maxRecDepth 16384

noncomputable section

namespace Cert.ReferenceIdeal.Steps

open Cert.ReferenceIdeal Cert.ReferenceIdeal.Gen Cert.Graph
open Idealize.ShloMosaic Idealize.ShloMosaic.TcCoe Idealize.SL.Sem

/-- The positions carried by a sort along the last axis, read at an index. -/
theorem sort2_last (x : FVec Ideal S128x64x64 .f32) (y : IVec S128x64x64 32) (cmp : Ideal .f32 × BitVec 32 → Ideal .f32 × BitVec 32 → BitVec 1)
    (j : S128x64x64.Idx) : (Host.sort2 S128x64x64 2 cmp x y).2 j
      = y (Shape.Idx.along (s := S128x64x64) j 2 (sortedFrom (fun a b : Fin 64 =>
          cmp (x (Shape.Idx.along (s := S128x64x64) j 2 a), y (Shape.Idx.along (s := S128x64x64) j 2 a))
            (x (Shape.Idx.along (s := S128x64x64) j 2 b), y (Shape.Idx.along (s := S128x64x64) j 2 b)) == 1#1) (j 2))) := rfl

/-- The `k`-th number chosen for a point is that of its `k`-th nearest point. -/
theorem near_at (d : FVec Ideal S128x64x64 .f32) (B : Fin 128) (n : Fin 64) (D : Fin 64 → ℝ)
    (h : ∀ j, d (ix3 B n j) = ((D j : ℝ) : EReal)) (k : Fin 9) :
    near d (ix3 B n k) = BitVec.ofNat 32 (nearest D ⟨k, by omega⟩).val := by
  have hb : (fun a b : Fin 64 => FloatOps.cmpfTotal (F := Ideal) .gt (Host.negf d (ix3 B n a)) (Host.negf d (ix3 B n b)) == 1#1)
      = nearer D := by
    funext a b
    show (Ideal.cmp .ogt (-(d (ix3 B n a))) (-(d (ix3 B n b))) == 1#1) = decide (D a < D b)
    rw [h, h, ← EReal.coe_neg, ← EReal.coe_neg]
    unfold Ideal.cmp
    simp only [EReal.coe_lt_coe_iff, neg_lt_neg_iff]
    by_cases hab : D a < D b <;> simp [hab]
  have hj : ∀ a : Fin 64, (Shape.Idx.along (s := S128x64x64) (ix3 B n (⟨k, by omega⟩ : Fin 64)) 2 a) = ix3 B n a := fun a => by
    funext i
    match i with
    | ⟨0, _⟩ => rfl
    | ⟨1, _⟩ => rfl
    | ⟨2, _⟩ => rfl
  have hs : (Host.sort2 S128x64x64 2 (fun l r : Ideal .f32 × BitVec 32 => FloatOps.cmpfTotal .gt l.1 r.1) (Host.negf d)
      (fun i => if hd : 2 < S128x64x64.rank then iotaInDim S128x64x64 32 ⟨2, hd⟩ i else 0#32)).2 (ix3 B n (⟨k, by omega⟩ : Fin 64))
      = BitVec.ofNat 32 (nearest D ⟨k, by omega⟩).val := by
    rw [sort2_last]
    have hb' : (fun a b : Fin 64 => FloatOps.cmpfTotal (F := Ideal) .gt
        (Host.negf d (Shape.Idx.along (s := S128x64x64) (ix3 B n (⟨k, by omega⟩ : Fin 64)) 2 a))
        (Host.negf d (Shape.Idx.along (s := S128x64x64) (ix3 B n (⟨k, by omega⟩ : Fin 64)) 2 b)) == 1#1) = nearer D := by
      funext a b
      rw [hj, hj]
      exact congrFun₂ hb a b
    unfold nearest
    rw [hb']
    have hi : ∀ q : Fin 64, iotaInDim S128x64x64 32 2 (Shape.Idx.along (s := S128x64x64) (ix3 B n (⟨k, by omega⟩ : Fin 64)) 2 q)
        = BitVec.ofNat 32 q.val := fun q => by rw [hj]; rfl
    exact hi (sortedFrom (nearer D) ⟨k, by omega⟩)
  rw [← hs]
  unfold near Host.topK
  pointwise

/-- The gather of features, read at an index. -/
theorem gather_at (p : FVec Ideal S128x96x64 .f32) (idx : IVec S128x64x9x1 32) (B : Fin 128) (o : Fin 96) (n : Fin 64) (c : Fin 9) :
    Host.gather gather_S128x96x64_S128x64x9x1_S128x96x64x9_1_2_0_0_2_3_1961 p idx (ix4 B o n c)
      = p (ix3 B o ⟨min (idx (ix4 B n c 0)).toInt.toNat 63, by omega⟩) := by
  unfold Host.gather
  congr 1
  funext a
  refine Fin.ext ?_
  set d := gather_S128x96x64_S128x64x9x1_S128x96x64x9_1_2_0_0_2_3_1961
  show d.start (ix4 B o n c) idx a + d.batchCoord (ix4 B o n c) a + d.offCoord (ix4 B o n c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have b0 : (0 : Fin 3) ∈ d.operandBatchingDims := List.mem_singleton.mpr rfl
  have b1 : (1 : Fin 3) ∉ d.operandBatchingDims := fun h => absurd (List.mem_singleton.mp h) (by decide)
  have b2 : (2 : Fin 3) ∉ d.operandBatchingDims := fun h => absurd (List.mem_singleton.mp h) (by decide)
  have c1 : (1 : Fin 3) ∉ d.collapsedSliceDims := fun h => absurd (List.mem_singleton.mp h) (by decide)
  have c2 : (2 : Fin 3) ∈ d.collapsedSliceDims := List.mem_singleton.mpr rfl
  have m1 : (1 : Fin 3) ∉ d.startIndexMap := fun h => absurd (List.mem_singleton.mp h) (by decide)
  have m2 : (2 : Fin 3) ∈ d.startIndexMap := List.mem_singleton.mpr rfl
  rcases h012 with rfl | rfl | rfl
  · rw [GatherDims.start_batching _ _ _ _ b0, GatherDims.offCoord_eq_zero _ _ _ (fun h => ((GatherDims.mem_sKept _ _).mp h).2 b0)]
    simp only [Nat.zero_add, Nat.add_zero]
    unfold GatherDims.batchCoord
    rw [dif_pos b0]
    rfl
  · rw [GatherDims.batchCoord_eq_zero _ _ _ b1]
    unfold GatherDims.start
    rw [dif_neg m1]
    simp only [Nat.zero_add, Nat.add_zero]
    unfold GatherDims.offCoord
    rw [dif_pos ((GatherDims.mem_sKept _ _).mpr ⟨c1, b1⟩)]
    rfl
  · rw [GatherDims.batchCoord_eq_zero _ _ _ b2, GatherDims.offCoord_eq_zero _ _ _ (fun h => ((GatherDims.mem_sKept _ _).mp h).1 c2)]
    simp only [Nat.add_zero]
    unfold GatherDims.start
    rw [dif_pos m2]
    have hsi : d.siIdx (ix4 B o n c) ⟨List.idxOf (2 : Fin 3) d.startIndexMap, List.idxOf_lt_length_iff.2 m2⟩ = ix4 B n c 0 := by
      funext b; refine Fin.ext ?_
      match b with
      | ⟨0, _⟩ => rfl
      | ⟨1, _⟩ => rfl
      | ⟨2, _⟩ => rfl
      | ⟨3, _⟩ => rfl
    rw [hsi]
    rfl

/-- A number of a point in range is not counted from the end. -/
theorem wrap_eq : ∀ j : Fin 64, Scalar.select (IntOp.cmpi .slt (BitVec.ofNat 32 j.val) 0#32)
    (IntOp.addi (BitVec.ofNat 32 j.val) 64#32) (BitVec.ofNat 32 j.val) = BitVec.ofNat 32 j.val := by
  decide

/-- A number of a point in range, read back. -/
theorem clamp_eq : ∀ j : Fin 64, min (BitVec.ofNat 32 j.val).toInt.toNat 63 = j.val := by
  decide

/-- The features picked: those of the point numbered, in the same window. -/
theorem picked_at (p : FVec Ideal S128x96x64 .f32) (k : IVec S128x64x9 32) (B : Fin 128) (o : Fin 96) (n : Fin 64) (c : Fin 9)
    (j : Fin 64) (hk : k (ix3 B n c) = BitVec.ofNat 32 j.val) : picked p (wrapped k) (ix4 B o n c) = p (ix3 B o j) := by
  unfold picked
  rw [gather_at]
  congr 2
  refine Fin.ext ?_
  have hw : broadcastInDim S128x64x9x1 ![0, 1, 2] bcast_S128x64x9_S128x64x9x1_0_1_2 (wrapped k) (ix4 B n c 0)
      = BitVec.ofNat 32 j.val := by
    pointwise [wrapped]
    rw [hk]
    exact wrap_eq j
  dsimp only
  rw [hw]
  exact clamp_eq j

end Cert.ReferenceIdeal.Steps

end
-- ==== Proof.RefValue.lean ====
/-
  The reference's result over the reals: each step read at an index, from the first layer to the residual.
-/
module

public import Idealize.ShloMosaic.Lib.Pointwise
public import proofs.«01_k».proof.Proof.Nearest
public import proofs.«01_k».proof.Proof.Layers

@[expose] public section

set_option maxRecDepth 16384

noncomputable section

namespace Cert.ReferenceIdeal.Steps

open Cert.ReferenceIdeal Cert.ReferenceIdeal.Gen Cert.Graph
open Idealize.ShloMosaic Idealize.ShloMosaic.TcCoe Idealize.SL.Sem

/-- The deviation is that of the variance word. -/
theorem deviation_at : deviation (F := Ideal) ix0 = ((dev : ℝ) : EReal) := sqrt_variance

/-- The first layer's features at a pixel. -/
theorem first_at (x : FVec Ideal S8x96x32x32 .f32) (w : FVec Ideal S96x96 .f32) (b g h : FVec Ideal S96 .f32)
    (X : Fin 8 → Fin 96 → Fin 32 → Fin 32 → ℝ) (W : Fin 96 → Fin 96 → ℝ) (B G H : Fin 96 → ℝ)
    (hx : ∀ a c i j, x (ix4 a c i j) = ((X a c i j : ℝ) : EReal)) (hw : ∀ c k, w (ix2 c k) = ((W c k : ℝ) : EReal))
    (hb : ∀ c, b (ix1 c) = ((B c : ℝ) : EReal)) (hg : ∀ c, g (ix1 c) = ((G c : ℝ) : EReal))
    (hh : ∀ c, h (ix1 c) = ((H c : ℝ) : EReal)) (a : Fin 8) (c : Fin 96) (i j : Fin 32) :
    first x w b g h (ix4 a c i j) = ((feature W B G H (fun k => X a k i j) c : ℝ) : EReal) := by
  have e : first x w b g h (ix4 a c i j)
      = Ideal.div (∑ k, w (ix2 c k) * x (ix4 a k i j) + b (ix1 c)) (deviation (F := Ideal) ix0) * g (ix1 c) + h (ix1 c) := by
    pointwise [first, normed, chan]
  rw [e, deviation_at, hb, hg, hh]
  simp only [hw, hx, ← EReal.coe_mul, coe_sum, ← EReal.coe_add]
  rw [div_coe dev_pos.ne', ← EReal.coe_mul, ← EReal.coe_add]
  rfl

/-- The points of a window, read from the image. -/
theorem points_at (y : FVec Ideal S8x96x32x32 .f32) (X : Fin 8 → Fin 96 → Fin 32 → Fin 32 → ℝ)
    (hy : ∀ a c i j, y (ix4 a c i j) = ((X a c i j : ℝ) : EReal)) (w : Fin 128) (c : Fin 96) (n : Fin 64) :
    points y (ix3 w c n) = ((win X w c n : ℝ) : EReal) := by
  pointwise [points]
  exact hy _ _ _ _

/-- The scaled features of a window's points. -/
theorem unit_at (p : FVec Ideal S128x96x64 .f32) (w : Fin 128) (Y : Fin 96 → Fin 64 → ℝ)
    (hp : ∀ c n, p (ix3 w c n) = ((Y c n : ℝ) : EReal)) (n : Fin 64) (c : Fin 96) :
    unit p (ix3 w n c) = ((scaled Y c n : ℝ) : EReal) := by
  have e : unit p (ix3 w n c) = Ideal.div (p (ix3 w c n)) (max (Ideal.ofBits .f32 0x2B8CBCCC#32)
      (Ideal.sqrt (∑ x, p (ix3 w x n) * p (ix3 w x n)))) := by
    pointwise [unit]
    rfl
  rw [e, ofBits_tiny]
  simp only [hp, ← EReal.coe_mul, coe_sum]
  rw [sqrt_coe (Finset.sum_nonneg fun c _ => mul_self_nonneg _), coe_max]
  exact div_coe (len_pos Y n).ne'

/-- The squared distances within a window. -/
theorem dists_at (u : FVec Ideal S128x64x96 .f32) (w : Fin 128) (Y : Fin 96 → Fin 64 → ℝ)
    (hu : ∀ n c, u (ix3 w n c) = ((scaled Y c n : ℝ) : EReal)) (i j : Fin 64) :
    dists u (ix3 w i j) = ((gap Y i j : ℝ) : EReal) := by
  have e : dists u (ix3 w i j) = ∑ x, u (ix3 w i x) * u (ix3 w i x)
      + Ideal.ofBits .f32 0xC0000000#32 * ∑ x, u (ix3 w i x) * u (ix3 w j x) + ∑ x, u (ix3 w j x) * u (ix3 w j x) := by
    pointwise [dists, lengths]
  rw [e, ofBits_neg_two]
  simp only [hu, ← EReal.coe_mul, coe_sum, ← EReal.coe_add]
  rfl

/-- The lower half of what an edge's layer reads: the point's features. -/
theorem pairs_lower (q r : FVec Ideal S128x96x64x9 .f32) (w : Fin 128) (o : Fin 96) (n : Fin 64) (k : Fin 9) :
    pairs q r (ix4 w (lower o) n k) = r (ix4 w o n k) := by
  pointwise [pairs]
  exact dif_pos o.isLt

/-- The upper half: the differences. -/
theorem pairs_upper (q r : FVec Ideal S128x96x64x9 .f32) (w : Fin 128) (o : Fin 96) (n : Fin 64) (k : Fin 9) :
    pairs q r (ix4 w (upper o) n k) = q (ix4 w o n k) - r (ix4 w o n k) := by
  pointwise [pairs]
  have h : ¬ (upper o).val < 96 := by simp [upper]
  have ho : (⟨(upper o).val - 96, by have := (upper o).isLt; omega⟩ : Fin 96) = o := Fin.ext (by simp [upper])
  refine (dif_neg h).trans ?_
  exact congrArg (fun o' : Fin 96 => q (ix4 w o' n k) - r (ix4 w o' n k)) ho

/-- The features of an edge: what the point gives and what the neighbour gives, cut off below zero. -/
theorem edge_at (p : FVec Ideal S128x96x64 .f32) (q : FVec Ideal S128x96x64x9 .f32) (w : FVec Ideal S192x192 .f32)
    (b g h : FVec Ideal S192 .f32) (W : Fin 192 → Fin 192 → ℝ) (B G H : Fin 192 → ℝ)
    (hw : ∀ c k, w (ix2 c k) = ((W c k : ℝ) : EReal)) (hb : ∀ c, b (ix1 c) = ((B c : ℝ) : EReal))
    (hg : ∀ c, g (ix1 c) = ((G c : ℝ) : EReal)) (hh : ∀ c, h (ix1 c) = ((H c : ℝ) : EReal))
    (v : Fin 128) (Y : Fin 96 → Fin 64 → ℝ) (hp : ∀ c n, p (ix3 v c n) = ((Y c n : ℝ) : EReal)) (n : Fin 64) (k : Fin 9) (j : Fin 64)
    (hq : ∀ c, q (ix4 v c n k) = ((Y c j : ℝ) : EReal)) (c : Fin 192) :
    layerE (pairs q (repeated p)) w b g h (ix4 v c n k) = ((max (own W B G H Y c n + far W G Y c j) 0 : ℝ) : EReal) := by
  have e : layerE (pairs q (repeated p)) w b g h (ix4 v c n k)
      = max (Ideal.div (∑ x, w (ix2 c x) * pairs q (repeated p) (ix4 v x n k) + b (ix1 c)) (deviation (F := Ideal) ix0)
          * g (ix1 c) + h (ix1 c)) (Ideal.ofBits .f32 0x00000000#32) := by
    pointwise [layerE, chanE]
  have hr : ∀ x, repeated p (ix4 v x n k) = ((Y x n : ℝ) : EReal) := fun x => by
    pointwise [repeated]
    exact hp x n
  have z : Ideal.ofBits .f32 0x00000000#32 = ((0 : ℝ) : EReal) := by simp [Ideal.ofBits, Ideal.ieee]
  rw [e, deviation_at, hb, hg, hh, z, sum_halves]
  simp only [pairs_lower, pairs_upper, hr, hq, hw, ← EReal.coe_sub, ← EReal.coe_mul, coe_sum, ← EReal.coe_add]
  rw [div_coe dev_pos.ne', ← EReal.coe_mul, ← EReal.coe_add, coe_max, own_add_far]

/-- The largest over the nine neighbours. -/
theorem largest_at (e : FVec Ideal S128x192x64x9 .f32) (v : Fin 128) (c : Fin 192) (n : Fin 64) (f : Fin 9 → ℝ)
    (he : ∀ k, e (ix4 v c n k) = ((f k : ℝ) : EReal)) :
    largest e (ix3 v c n) = ((Finset.univ.sup' ⟨(0 : Fin 9), Finset.mem_univ _⟩ f : ℝ) : EReal) := by
  have h : largest e (ix3 v c n) = Finset.fold max (Ideal.ofBits .f32 0xFF800000#32) (fun x => e (ix4 v c n x)) Finset.univ := by
    pointwise [largest]
  rw [h, ofBits_bot, ← sup_coe]
  simp only [he]
  rfl

/-- The graph layer at a point of a window. -/
theorem graph_at (p : FVec Ideal S128x96x64 .f32) (w : FVec Ideal S192x192 .f32)
    (b g h : FVec Ideal S192 .f32) (W : Fin 192 → Fin 192 → ℝ) (B G H : Fin 192 → ℝ)
    (hw : ∀ c k, w (ix2 c k) = ((W c k : ℝ) : EReal)) (hb : ∀ c, b (ix1 c) = ((B c : ℝ) : EReal))
    (hg : ∀ c, g (ix1 c) = ((G c : ℝ) : EReal)) (hh : ∀ c, h (ix1 c) = ((H c : ℝ) : EReal))
    (v : Fin 128) (Y : Fin 96 → Fin 64 → ℝ) (hp : ∀ c n, p (ix3 v c n) = ((Y c n : ℝ) : EReal)) (c : Fin 192) (n : Fin 64) :
    graph p w b g h (ix3 v c n) = ((message W B G H Y c n : ℝ) : EReal) := by
  unfold graph
  refine largest_at _ v c n (fun k => max (own W B G H Y c n + far W G Y c (neighbour Y n k)) 0) fun k => ?_
  refine edge_at p _ w b g h W B G H hw hb hg hh v Y hp n k (neighbour Y n k) (fun c' => ?_) c
  rw [picked_at p _ v c' n k (neighbour Y n k)
    (near_at _ v n (gap Y n) (fun j => dists_at _ v Y (fun m c'' => unit_at p v Y hp m c'') n j) k)]
  exact hp _ _

/-- The reference's result at a pixel. -/
theorem result_at (x : FVec Ideal S8x96x32x32 .f32) (w1 : FVec Ideal S96x96 .f32) (b1 g1 h1 : FVec Ideal S96 .f32)
    (wg : FVec Ideal S192x192 .f32) (bg gg hg : FVec Ideal S192 .f32) (w2 : FVec Ideal S96x192 .f32) (b2 g2 h2 : FVec Ideal S96 .f32)
    (X : Fin 8 → Fin 96 → Fin 32 → Fin 32 → ℝ) (W1 : Fin 96 → Fin 96 → ℝ) (B1 G1 H1 : Fin 96 → ℝ)
    (Wg : Fin 192 → Fin 192 → ℝ) (Bg Gg Hg : Fin 192 → ℝ) (W2 : Fin 96 → Fin 192 → ℝ) (G2 : Fin 96 → ℝ)
    (hx : ∀ a c i j, x (ix4 a c i j) = ((X a c i j : ℝ) : EReal)) (hw1 : ∀ c k, w1 (ix2 c k) = ((W1 c k : ℝ) : EReal))
    (hb1 : ∀ c, b1 (ix1 c) = ((B1 c : ℝ) : EReal)) (hg1 : ∀ c, g1 (ix1 c) = ((G1 c : ℝ) : EReal))
    (hh1 : ∀ c, h1 (ix1 c) = ((H1 c : ℝ) : EReal)) (hwg : ∀ c k, wg (ix2 c k) = ((Wg c k : ℝ) : EReal))
    (hbg : ∀ c, bg (ix1 c) = ((Bg c : ℝ) : EReal)) (hgg : ∀ c, gg (ix1 c) = ((Gg c : ℝ) : EReal))
    (hhg : ∀ c, hg (ix1 c) = ((Hg c : ℝ) : EReal)) (hw2 : ∀ c k, w2 (ix2 c k) = ((W2 c k : ℝ) : EReal))
    (hg2 : ∀ c, g2 (ix1 c) = ((G2 c : ℝ) : EReal)) (a : Fin 8) (o : Fin 96) (i j : Fin 32) :
    result x w1 b1 g1 h1 wg bg gg hg w2 b2 g2 h2 (ix4 a o i j)
      = Ideal.div (((∑ c, W2 o c * message Wg Bg Gg Hg
            (fun c n => feature W1 B1 G1 H1 (fun k => win X (window a i j) k n) c) c (place i j) : ℝ) : EReal) + b2 (ix1 o))
          ((dev : ℝ) : EReal) * ((G2 o : ℝ) : EReal) + h2 (ix1 o) + ((X a o i j : ℝ) : EReal) := by
  unfold result
  generalize he : image (graph (points (first x w1 b1 g1 h1)) wg bg gg hg) = e
  have h1' : ∀ c, e (ix4 a c i j) = ((message Wg Bg Gg Hg
      (fun c n => feature W1 B1 G1 H1 (fun k => win X (window a i j) k n) c) c (place i j) : ℝ) : EReal) := fun c => by
    rw [← he]
    have hi : ∀ z : FVec Ideal S128x192x64 .f32, image z (ix4 a c i j) = z (ix3 (window a i j) c (place i j)) := fun z => by
      pointwise [image]
      rfl
    rw [hi]
    exact graph_at _ wg bg gg hg Wg Bg Gg Hg hwg hbg hgg hhg _ _
      (fun c n => points_at _ (fun a c i j => feature W1 B1 G1 H1 (fun k => X a k i j) c)
        (first_at x w1 b1 g1 h1 X W1 B1 G1 H1 hx hw1 hb1 hg1 hh1) _ c n) c _
  have hl : last x e w2 b2 g2 h2 (ix4 a o i j)
      = Ideal.div (∑ k, w2 (ix2 o k) * e (ix4 a k i j) + b2 (ix1 o)) (deviation (F := Ideal) ix0) * g2 (ix1 o) + h2 (ix1 o)
        + x (ix4 a o i j) := by
    pointwise [last, normed, chan]
  rw [hl, deviation_at, hg2, hx]
  simp only [hw2, h1', ← EReal.coe_mul, coe_sum]

end Cert.ReferenceIdeal.Steps

end
-- ==== Proof.Equation.lean ====
/-
  The equation: of arrays of reals (two offsets of the last layer excepted, which may be anything) the kernel's result and
  the reference's are one.
-/
module

public import proofs.«01_k».proof.Proof.KernelValue
public import proofs.«01_k».proof.Proof.RefValue

@[expose] public section

set_option maxRecDepth 16384

noncomputable section

namespace Cert.Graph

open Idealize.ShloMosaic Cert.KernelIdeal

/-- An array of reals, read as reals: rank 1. -/
theorem real1 {a : Nat} {x : FVec Ideal ⟨1, ![a]⟩ .f32} (h : ∀ i, x i ≠ ⊤ ∧ x i ≠ ⊥) (c : Fin a) :
    x (ix1 c) = (((x (ix1 c) : EReal).toReal : ℝ) : EReal) := (coe_toReal_of (h _)).symm

/-- An array of reals, read as reals: rank 2. -/
theorem real2 {a b : Nat} {x : FVec Ideal ⟨2, ![a, b]⟩ .f32} (h : ∀ i, x i ≠ ⊤ ∧ x i ≠ ⊥) (c : Fin a) (k : Fin b) :
    x (ix2 c k) = (((x (ix2 c k) : EReal).toReal : ℝ) : EReal) := (coe_toReal_of (h _)).symm

/-- The kernel's result is the reference's. -/
theorem result_eq (x : FVec Ideal S8x96x32x32 .f32) (w1 : FVec Ideal S96x96 .f32) (b1 g1 h1 : FVec Ideal S96 .f32)
    (wg : FVec Ideal S192x192 .f32) (bg gg hg : FVec Ideal S192 .f32) (w2 : FVec Ideal S96x192 .f32) (b2 g2 h2 : FVec Ideal S96 .f32)
    (rx : ∀ i, x i ≠ ⊤ ∧ x i ≠ ⊥) (rw1 : ∀ i, w1 i ≠ ⊤ ∧ w1 i ≠ ⊥) (rb1 : ∀ i, b1 i ≠ ⊤ ∧ b1 i ≠ ⊥)
    (rg1 : ∀ i, g1 i ≠ ⊤ ∧ g1 i ≠ ⊥) (rh1 : ∀ i, h1 i ≠ ⊤ ∧ h1 i ≠ ⊥) (rwg : ∀ i, wg i ≠ ⊤ ∧ wg i ≠ ⊥)
    (rbg : ∀ i, bg i ≠ ⊤ ∧ bg i ≠ ⊥) (rgg : ∀ i, gg i ≠ ⊤ ∧ gg i ≠ ⊥) (rhg : ∀ i, hg i ≠ ⊤ ∧ hg i ≠ ⊥)
    (rw2 : ∀ i, w2 i ≠ ⊤ ∧ w2 i ≠ ⊥) (rg2 : ∀ i, g2 i ≠ ⊤ ∧ g2 i ≠ ⊥) :
    Cert.ReferenceIdeal.Steps.result x w1 b1 g1 h1 wg bg gg hg w2 b2 g2 h2
      = Cert.KernelIdeal.Body.result x w1 b1 g1 h1 wg bg gg hg w2 b2 g2 h2 := by
  have hx : ∀ a c i j, x (ix4 a c i j) = (((x (ix4 a c i j) : EReal).toReal : ℝ) : EReal) :=
    fun a c i j => (coe_toReal_of (rx _)).symm
  funext q
  have hq : q = ix4 (q 0) (q 1) (q 2) (q 3) := eq_ix4 q
  rw [hq]
  refine (Cert.ReferenceIdeal.Steps.result_at x w1 b1 g1 h1 wg bg gg hg w2 b2 g2 h2 _ _ _ _ _ _ _ _ _ _ _
    hx (real2 rw1) (real1 rb1) (real1 rg1) (real1 rh1) (real2 rwg) (real1 rbg) (real1 rgg) (real1 rhg) (real2 rw2) (real1 rg2)
    (q 0) (q 1) (q 2) (q 3)).trans ?_
  refine Eq.trans ?_ (Cert.KernelIdeal.Body.result_at x w1 b1 g1 h1 wg bg gg hg w2 b2 g2 h2 _ _ _ _ _ _ _ _ _ _ _
    hx (real2 rw1) (real1 rb1) (real1 rg1) (real1 rh1) (real2 rwg) (real1 rbg) (real1 rgg) (real1 rhg) (real2 rw2) (real1 rg2)
    (q 0) (q 1) (q 2) (q 3)).symm
  rw [norm_add]

end Cert.Graph

end
-- ==== Proof.Finite.lean ====
/-
  The precondition read back: every element of the eleven arrays that it names is a real.
-/
module

public import Idealize.ShloMosaic.Lib.ReduceAll
public import Idealize.ShloMosaic.Lib.Pointwise
public import proofs.«01_k».proof.Defs
public import proofs.«01_k».proof.Proof.Consts

@[expose] public section

set_option maxRecDepth 16384

noncomputable section

namespace Cert.Pre_finite

open Idealize.ShloMosaic Cert.Graph

/-- The precondition's shape relations. -/
theorem facts : Facts where
  bcast_S_S8x96x32x32 := by decide
  reducesTo_S8x96x32x32_S_d0_1_2_3 := by decide
  h_S_ := by decide
  bcast_S_S96x96 := by decide
  reducesTo_S96x96_S_d0_1 := by decide
  bcast_S_S96 := by decide
  reducesTo_S96_S_d0 := by decide
  bcast_S_S192x192 := by decide
  reducesTo_S192x192_S_d0_1 := by decide
  bcast_S_S192 := by decide
  reducesTo_S192_S_d0 := by decide
  bcast_S_S96x192 := by decide
  reducesTo_S96x192_S_d0_1 := by decide

/-- A scalar has one index. -/
instance : Subsingleton S_.Idx := ⟨fun a b => funext fun i => i.elim0⟩

/-- One array's part of the precondition: each of its elements lies strictly between the infinities. -/
theorem real_of {s : Shape} {axes : List (Fin s.rank)} (a : FVec Ideal s .f32) (hb : S_.BroadcastsInDim s (![] : Fin 0 → Fin s.rank))
    (hr : s.ReducesTo axes S_) (hS : 0 < S_.numel)
    (h : Host.reduce IntOp.andi (cmpf .olt (Host.absf a) (broadcastInDim s ![] hb (constant S_ .f32 0x7F800000#32)))
      (constantI S_ 1 1#1) hr hS ix0 = 1#1) (i : s.Idx) : a i ≠ ⊤ ∧ a i ≠ ⊥ := by
  have hi := Host.reduce_andi_all _ _ hr hS _ h i
  have hc : Ideal.cmp .olt (max (a i) (-(a i))) (Ideal.ofBits .f32 0x7F800000#32) = 1#1 := hi
  rw [ofBits_top] at hc
  unfold Ideal.cmp at hc
  have hlt : max (a i) (-(a i)) < ⊤ := by
    by_contra hn
    simp [hn] at hc
  constructor
  · intro e
    rw [e] at hlt
    simp at hlt
  · intro e
    rw [e] at hlt
    simp at hlt

attribute [local instance] facts

/-- What the precondition says: the eleven arrays hold reals. -/
theorem real_args (a0 : FVec Ideal S8x96x32x32 .f32) (a1 : FVec Ideal S96x96 .f32) (a2 a3 a4 : FVec Ideal S96 .f32)
    (a5 : FVec Ideal S192x192 .f32) (a6 a7 a8 : FVec Ideal S192 .f32) (a9 : FVec Ideal S96x192 .f32) (a10 a11 a12 : FVec Ideal S96 .f32)
    (h : fn (F := Ideal) a0 a1 a2 a3 a4 a5 a6 a7 a8 a9 a10 a11 a12 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥) ∧ (∀ i, a7 i ≠ ⊤ ∧ a7 i ≠ ⊥)
      ∧ (∀ i, a8 i ≠ ⊤ ∧ a8 i ≠ ⊥) ∧ (∀ i, a9 i ≠ ⊤ ∧ a9 i ≠ ⊥) ∧ (∀ i, a11 i ≠ ⊤ ∧ a11 i ≠ ⊥) := by
  have h := congrFun h ix0
  dsimp only [fn, fn_part1, fn_part2, fn_part3] at h
  obtain ⟨h, h11⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of a0 _ _ _ h0, real_of a1 _ _ _ h1, real_of a2 _ _ _ h2, real_of a3 _ _ _ h3, real_of a4 _ _ _ h4,
    real_of a5 _ _ _ h5, real_of a6 _ _ _ h6, real_of a7 _ _ _ h7, real_of a8 _ _ _ h8, real_of a9 _ _ _ h9,
    real_of a11 _ _ _ h11⟩

end Cert.Pre_finite

end
-- ==== Proof.lean ====
/-
  The claims assembled: the programs' frames, and the kernel's result against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and, having no semaphores, with every counter at zero. -/
theorem frame_reference : quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run (F := Ideal) m g)

/-- Kernel and reference end with the same result. -/
theorem algebraic : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v36, ?_, ?_⟩
  · refine (θ_run Cert.KernelIdeal.defs _ _).mono (fun r h c => ⟨?_, h.2 c⟩)
      (θ_run_and (Cert.KernelIdeal.Gen.run_main (F := Ideal) m g) (Cert.KernelIdeal.Gen.unchanged (F := Ideal) m g))
    exact (h.1 c).2 Cert.KernelIdeal.main_v36 (by decide)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10, e11, e12⟩ := hagree c
    obtain ⟨r0, r1, r2, r3, r4, r5, r6, r7, r8, r9, r11⟩ := Cert.Pre_finite.real_args _ _ _ _ _ _ _ _ _ _ _ _ _ (hpre c)
    refine (Cert.ReferenceIdeal.Steps.result_eq m' c).trans ?_
    refine Eq.trans ?_ (Cert.KernelIdeal.Body.result_eq m c).symm
    rw [e0, e1, e2, e3, e4, e5, e6, e7, e8, e9, e10, e11, e12]
    exact Cert.Graph.result_eq _ _ _ _ _ _ _ _ _ _ _ _ _ r0 r1 r2 r3 r4 r5 r6 r7 r8 r9 r11

/-- All the claims. -/
theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  frame_reference, fun m g _ => frame_reference m g trivial, trivial, algebraic⟩

end Cert.Proof

end
